-- ==== Defs.lean ====
def Pre_Kernel [hPre_path_in_range : Cert.Pre_path_in_range.Facts] (m : (ℓ : Loc Cert.Kernel.nD Cert.Kernel.τ Cert.Kernel.sig) → Buf (Elt Bits) ℓ) : Prop :=
  ∀ c : Dev Cert.Kernel.nD,
    (Cert.Pre_path_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_path_in_range : Cert.Pre_path_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_path_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def quiescent_Kernel [hKernel : Cert.Kernel.Facts] [hPre_path_in_range : Cert.Pre_path_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_path_in_range : Cert.Pre_path_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "start" .f32 0xFF61B1E6#32 ⊥

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_path_in_range : Cert.Pre_path_in_range.Facts) (hPre_in_range_and_finite : Cert.Pre_in_range_and_finite.Facts),
    quiescent_Kernel (hKernel := hKernel) (hPre_path_in_range := hPre_path_in_range)
    ∧ quiescent_KernelIdeal (hKernelIdeal := hKernelIdeal) (hPre_path_in_range := hPre_path_in_range)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range_and_finite.lean ====
abbrev S16x16 : Shape := ⟨2, ![16, 16]⟩
abbrev S16x128 : Shape := ⟨2, ![16, 128]⟩
abbrev S16x1x128 : Shape := ⟨3, ![16, 1, 128]⟩
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S100000x256 : Shape := ⟨2, ![100000, 256]⟩
abbrev S100000 : Shape := ⟨1, ![100000]⟩
abbrev S256x100000 : Shape := ⟨2, ![256, 100000]⟩
abbrev S_ : Shape := ⟨0, ![]⟩

class Facts : Prop where
  bcast_S_S16x16 : S_.BroadcastsInDim S16x16 (![] : Fin 0 → Fin S16x16.rank)
  bcast_S_S16x128 : S_.BroadcastsInDim S16x128 (![] : Fin 0 → Fin S16x128.rank)
  bcast_S_S16x1x128 : S_.BroadcastsInDim S16x1x128 (![] : Fin 0 → Fin S16x1x128.rank)
  bcast_S_S100000x128 : S_.BroadcastsInDim S100000x128 (![] : Fin 0 → Fin S100000x128.rank)
  bcast_S_S128x128 : S_.BroadcastsInDim S128x128 (![] : Fin 0 → Fin S128x128.rank)
  bcast_S_S128 : S_.BroadcastsInDim S128 (![] : Fin 0 → Fin S128.rank)
  bcast_S_S256x128 : S_.BroadcastsInDim S256x128 (![] : Fin 0 → Fin S256x128.rank)
  bcast_S_S256 : S_.BroadcastsInDim S256 (![] : Fin 0 → Fin S256.rank)
  bcast_S_S100000x256 : S_.BroadcastsInDim S100000x256 (![] : Fin 0 → Fin S100000x256.rank)
  bcast_S_S100000 : S_.BroadcastsInDim S100000 (![] : Fin 0 → Fin S100000.rank)

variable [Facts]

def fn_part1 {F : FTy → Type} [FloatOps F] (main_arg6 : FVec F S256x128 .f32) (main_arg7 : FVec F S256 .f32) (main_arg8 : FVec F S100000x256 .f32) (main_arg9 : FVec F S100000 .f32) (main_v4 : IVec S16x16 1) (main_v7 : IVec S16x128 1) (main_v10 : IVec S16x1x128 1) (main_v13 : IVec S100000x128 1) (main_v16 : IVec S128x128 1) (main_v17 : FVec F S128 .f32) : IVec S16x16 1 × IVec S16x128 1 × IVec S16x1x128 1 × IVec S100000x128 1 × IVec S128x128 1 × IVec S128 1 × IVec S256x128 1 × IVec S256 1 × IVec S100000x256 1 × IVec S100000 1 :=
  let main_cst_4 : FVec F S_ .f32 := constant S_ .f32 0x7F800000#32
  let main_v18 : FVec F S128 .f32 := broadcastInDim S128 ![] bcast_S_S128 main_cst_4
  let main_v19 : IVec S128 1 := cmpf .olt main_v17 main_v18
  let main_v20 : FVec F S256x128 .f32 := Host.absf main_arg6
  let main_cst_5 : FVec F S_ .f32 := constant S_ .f32 0x7F800000#32
  let main_v21 : FVec F S256x128 .f32 := broadcastInDim S256x128 ![] bcast_S_S256x128 main_cst_5
  let main_v22 : IVec S256x128 1 := cmpf .olt main_v20 main_v21
  let main_v23 : FVec F S256 .f32 := Host.absf main_arg7
  let main_cst_6 : FVec F S_ .f32 := constant S_ .f32 0x7F800000#32
  let main_v24 : FVec F S256 .f32 := broadcastInDim S256 ![] bcast_S_S256 main_cst_6
  let main_v25 : IVec S256 1 := cmpf .olt main_v23 main_v24
  let main_v26 : FVec F S100000x256 .f32 := Host.absf main_arg8
  let main_cst_7 : FVec F S_ .f32 := constant S_ .f32 0x7F800000#32
  let main_v27 : FVec F S100000x256 .f32 := broadcastInDim S100000x256 ![] bcast_S_S100000x256 main_cst_7
  let main_v28 : IVec S100000x256 1 := cmpf .olt main_v26 main_v27
  let main_v29 : FVec F S100000 .f32 := Host.absf main_arg9
  let main_cst_8 : FVec F S_ .f32 := constant S_ .f32 0x7F800000#32
  let main_v30 : FVec F S100000 .f32 := broadcastInDim S100000 ![] bcast_S_S100000 main_cst_8
  let main_v31 : IVec S100000 1 := cmpf .olt main_v29 main_v30
  (main_v4, main_v7, main_v10, main_v13, main_v16, main_v19, main_v22, main_v25, main_v28, main_v31)

def fn {F : FTy → Type} [FloatOps F] (main_arg0 : IVec S16x16 32) (main_arg1 : FVec F S16x128 .f32) (main_arg2 : FVec F S16x1x128 .f32) (main_arg3 : FVec F S100000x128 .f32) (main_arg4 : FVec F S128x128 .f32) (main_arg5 : FVec F S128 .f32) (main_arg6 : FVec F S256x128 .f32) (main_arg7 : FVec F S256 .f32) (main_arg8 : FVec F S100000x256 .f32) (main_arg9 : FVec F S100000 .f32) (main_arg10 : FVec F S256x100000 .f32) : IVec S16x16 1 × IVec S16x128 1 × IVec S16x1x128 1 × IVec S100000x128 1 × IVec S128x128 1 × IVec S128 1 × IVec S256x128 1 × IVec S256 1 × IVec S100000x256 1 × IVec S100000 1 :=
  let main_c : IVec S_ 32 := constantI S_ 32 0#32
  let main_v0 : IVec S16x16 32 := broadcastInDim S16x16 ![] bcast_S_S16x16 main_c
  let main_v1 : IVec S16x16 1 := cmpi .sge main_arg0 main_v0
  let main_c_0 : IVec S_ 32 := constantI S_ 32 100000#32
  let main_v2 : IVec S16x16 32 := broadcastInDim S16x16 ![] bcast_S_S16x16 main_c_0
  let main_v3 : IVec S16x16 1 := cmpi .slt main_arg0 main_v2
  let main_v4 : IVec S16x16 1 := andi main_v1 main_v3
  let main_v5 : FVec F S16x128 .f32 := Host.absf main_arg1
  let main_cst : FVec F S_ .f32 := constant S_ .f32 0x7F800000#32
  let main_v6 : FVec F S16x128 .f32 := broadcastInDim S16x128 ![] bcast_S_S16x128 main_cst
  let main_v7 : IVec S16x128 1 := cmpf .olt main_v5 main_v6
  let main_v8 : FVec F S16x1x128 .f32 := Host.absf main_arg2
  let main_cst_1 : FVec F S_ .f32 := constant S_ .f32 0x7F800000#32
  let main_v9 : FVec F S16x1x128 .f32 := broadcastInDim S16x1x128 ![] bcast_S_S16x1x128 main_cst_1
  let main_v10 : IVec S16x1x128 1 := cmpf .olt main_v8 main_v9
  let main_v11 : FVec F S100000x128 .f32 := Host.absf main_arg3
  let main_cst_2 : FVec F S_ .f32 := constant S_ .f32 0x7F800000#32
  let main_v12 : FVec F S100000x128 .f32 := broadcastInDim S100000x128 ![] bcast_S_S100000x128 main_cst_2
  let main_v13 : IVec S100000x128 1 := cmpf .olt main_v11 main_v12
  let main_v14 : FVec F S128x128 .f32 := Host.absf main_arg4
  let main_cst_3 : FVec F S_ .f32 := constant S_ .f32 0x7F800000#32
  let main_v15 : FVec F S128x128 .f32 := broadcastInDim S128x128 ![] bcast_S_S128x128 main_cst_3
  let main_v16 : IVec S128x128 1 := cmpf .olt main_v14 main_v15
  let main_v17 : FVec F S128 .f32 := Host.absf main_arg5
  fn_part1 (F := F) main_arg6 main_arg7 main_arg8 main_arg9 main_v4 main_v7 main_v10 main_v13 main_v16 main_v17
-- ==== Pre_path_in_range.lean ====
abbrev S16x16 : Shape := ⟨2, ![16, 16]⟩
abbrev S16x128 : Shape := ⟨2, ![16, 128]⟩
abbrev S16x1x128 : Shape := ⟨3, ![16, 1, 128]⟩
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S100000x256 : Shape := ⟨2, ![100000, 256]⟩
abbrev S100000 : Shape := ⟨1, ![100000]⟩
abbrev S256x100000 : Shape := ⟨2, ![256, 100000]⟩
abbrev S_ : Shape := ⟨0, ![]⟩

class Facts : Prop where
  bcast_S_S16x16 : S_.BroadcastsInDim S16x16 (![] : Fin 0 → Fin S16x16.rank)

variable [Facts]

def fn {F : FTy → Type} [FloatOps F] (main_arg0 : IVec S16x16 32) (main_arg1 : FVec F S16x128 .f32) (main_arg2 : FVec F S16x1x128 .f32) (main_arg3 : FVec F S100000x128 .f32) (main_arg4 : FVec F S128x128 .f32) (main_arg5 : FVec F S128 .f32) (main_arg6 : FVec F S256x128 .f32) (main_arg7 : FVec F S256 .f32) (main_arg8 : FVec F S100000x256 .f32) (main_arg9 : FVec F S100000 .f32) (main_arg10 : FVec F S256x100000 .f32) : IVec S16x16 1 :=
  let main_c : IVec S_ 32 := constantI S_ 32 0#32
  let main_v0 : IVec S16x16 32 := broadcastInDim S16x16 ![] bcast_S_S16x16 main_c
  let main_v1 : IVec S16x16 1 := cmpi .sge main_arg0 main_v0
  let main_c_0 : IVec S_ 32 := constantI S_ 32 100000#32
  let main_v2 : IVec S16x16 32 := broadcastInDim S16x16 ![] bcast_S_S16x16 main_c_0
  let main_v3 : IVec S16x16 1 := cmpi .slt main_arg0 main_v2
  let main_v4 : IVec S16x16 1 := andi main_v1 main_v3
  main_v4
-- ==== Kernel.lean ====
abbrev S16x16 : Shape := ⟨2, ![16, 16]⟩
abbrev S16x128 : Shape := ⟨2, ![16, 128]⟩
abbrev S16x1x128 : Shape := ⟨3, ![16, 1, 128]⟩
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S100000x256 : Shape := ⟨2, ![100000, 256]⟩
abbrev S100000 : Shape := ⟨1, ![100000]⟩
abbrev S256x100000 : Shape := ⟨2, ![256, 100000]⟩
abbrev S100000x1x128 : Shape := ⟨3, ![100000, 1, 128]⟩
abbrev S16x16x128 : Shape := ⟨3, ![16, 16, 128]⟩
abbrev S1x1x128 : Shape := ⟨3, ![1, 1, 128]⟩
abbrev S1 : Shape := ⟨1, ![1]⟩
abbrev S1x16x128 : Shape := ⟨3, ![1, 16, 128]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S1x128 : Shape := ⟨2, ![1, 128]⟩
abbrev S1x256 : Shape := ⟨2, ![1, 256]⟩
abbrev S1x100000 : Shape := ⟨2, ![1, 100000]⟩
abbrev S256x1 : Shape := ⟨2, ![256, 1]⟩
abbrev S8192x256 : Shape := ⟨2, ![8192, 256]⟩
abbrev S1x8192 : Shape := ⟨2, ![1, 8192]⟩
abbrev S256x8192 : Shape := ⟨2, ![256, 8192]⟩
abbrev S16x16x100000 : Shape := ⟨3, ![16, 16, 100000]⟩

abbrev nBuf : Space → Nat
  | .hbm => 44
  | .vmem => 61
  | .smem => 1
  | _ => 0

abbrev bufTy : (tb : Table) → Fin (tcTables nBuf tb) → BufTy
  | .hbm, ⟨0, _⟩ => ⟨S16x16, .i32⟩
  | .hbm, ⟨1, _⟩ => ⟨S16x128, .f32⟩
  | .hbm, ⟨2, _⟩ => ⟨S16x1x128, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S256, .f32⟩
  | .hbm, ⟨8, _⟩ => ⟨S100000x256, .f32⟩
  | .hbm, ⟨9, _⟩ => ⟨S100000, .f32⟩
  | .hbm, ⟨10, _⟩ => ⟨S256x100000, .f32⟩
  | .hbm, ⟨11, _⟩ => ⟨S100000x1x128, .f32⟩
  | .hbm, ⟨12, _⟩ => ⟨S16x16x128, .f32⟩
  | .hbm, ⟨13, _⟩ => ⟨S256x128, .f32⟩
  | .hbm, ⟨14, _⟩ => ⟨S16x16, .i32⟩
  | .hbm, ⟨15, _⟩ => ⟨S16x16, .i32⟩
  | .hbm, ⟨16, _⟩ => ⟨S_, .i32⟩
  | .hbm, ⟨17, _⟩ => ⟨S16x16, .i32⟩
  | .hbm, ⟨18, _⟩ => ⟨S16x16, .i32⟩
  | .hbm, ⟨19, _⟩ => ⟨S16x16, .i1⟩
  | .hbm, ⟨20, _⟩ => ⟨S16x16, .f32⟩
  | .hbm, ⟨21, _⟩ => ⟨S_, .f32⟩
  | .hbm, ⟨22, _⟩ => ⟨S16x16, .f32⟩
  | .hbm, ⟨23, _⟩ => ⟨S16x1x16x1, .f32⟩
  | .hbm, ⟨24, _⟩ => ⟨S1x16x1x16, .f32⟩
  | .hbm, ⟨25, _⟩ => ⟨S16x16x16x16, .f32⟩
  | .hbm, ⟨26, _⟩ => ⟨S16x16x16x16, .f32⟩
  | .hbm, ⟨27, _⟩ => ⟨S16x16x16x16, .f32⟩
  | .hbm, ⟨28, _⟩ => ⟨S256x256, .f32⟩
  | .hbm, ⟨29, _⟩ => ⟨S16x1x128, .f32⟩
  | .hbm, ⟨30, _⟩ => ⟨S16x16x128, .f32⟩
  | .hbm, ⟨31, _⟩ => ⟨S256x128, .f32⟩
  | .hbm, ⟨32, _⟩ => ⟨S16x16x128, .f32⟩
  | .hbm, ⟨33, _⟩ => ⟨S256x128, .f32⟩
  | .hbm, ⟨34, _⟩ => ⟨S1x128, .f32⟩
  | .hbm, ⟨35, _⟩ => ⟨S1x256, .f32⟩
  | .hbm, ⟨36, _⟩ => ⟨S256x256, .f32⟩
  | .hbm, ⟨37, _⟩ => ⟨S1x100000, .f32⟩
  | .hbm, ⟨38, _⟩ => ⟨S256x1, .f32⟩
  | .hbm, ⟨39, _⟩ => ⟨S256x1, .i32⟩
  | .hbm, ⟨40, _⟩ => ⟨S256x1, .f32⟩
  | .hbm, ⟨41, _⟩ => ⟨S256x100000, .f32⟩
  | .hbm, ⟨42, _⟩ => ⟨S16x16, .i32⟩
  | .hbm, ⟨43, _⟩ => ⟨S16x16x100000, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S1x16x128, .f32⟩
  | .local _ .vmem, ⟨33, _⟩ => ⟨S1x16x128, .f32⟩
  | .local _ .vmem, ⟨34, _⟩ => ⟨S256x128, .f32⟩
  | .local _ .vmem, ⟨35, _⟩ => ⟨S128x128, .f32⟩
  | .local _ .vmem, ⟨36, _⟩ => ⟨S1x128, .f32⟩
  | .local _ .vmem, ⟨37, _⟩ => ⟨S256x256, .f32⟩
  | .local _ .vmem, ⟨38, _⟩ => ⟨S256x128, .f32⟩
  | .local _ .vmem, ⟨39, _⟩ => ⟨S256x128, .f32⟩
  | .local _ .vmem, ⟨40, _⟩ => ⟨S256x128, .f32⟩
  | .local _ .vmem, ⟨41, _⟩ => ⟨S1x256, .f32⟩
  | .local _ .vmem, ⟨42, _⟩ => ⟨S256x256, .f32⟩
  | .local _ .vmem, ⟨43, _⟩ => ⟨S256x256, .f32⟩
  | .local _ .vmem, ⟨44, _⟩ => ⟨S8192x256, .f32⟩
  | .local _ .vmem, ⟨45, _⟩ => ⟨S8192x256, .f32⟩
  | .local _ .vmem, ⟨46, _⟩ => ⟨S1x8192, .f32⟩
  | .local _ .vmem, ⟨47, _⟩ => ⟨S1x8192, .f32⟩
  | .local _ .vmem, ⟨48, _⟩ => ⟨S256x8192, .f32⟩
  | .local _ .vmem, ⟨49, _⟩ => ⟨S256x8192, .f32⟩
  | .local _ .vmem, ⟨50, _⟩ => ⟨S256x1, .f32⟩
  | .local _ .vmem, ⟨51, _⟩ => ⟨S256x1, .i32⟩
  | .local _ .vmem, ⟨52, _⟩ => ⟨S256x1, .f32⟩
  | .local _ .vmem, ⟨53, _⟩ => ⟨S256x256, .f32⟩
  | .local _ .vmem, ⟨54, _⟩ => ⟨S8192x256, .f32⟩
  | .local _ .vmem, ⟨55, _⟩ => ⟨S8192x256, .f32⟩
  | .local _ .vmem, ⟨56, _⟩ => ⟨S1x8192, .f32⟩
  | .local _ .vmem, ⟨57, _⟩ => ⟨S1x8192, .f32⟩
  | .local _ .vmem, ⟨58, _⟩ => ⟨S256x1, .f32⟩
  | .local _ .vmem, ⟨59, _⟩ => ⟨S256x8192, .f32⟩
  | .local _ .vmem, ⟨60, _⟩ => ⟨S256x8192, .f32⟩
  | .local _ .smem, ⟨0, _⟩ => ⟨S256, .i32⟩
  | _, _ => ⟨S16x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v21_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc1_stg0_0 : Ref sig .tc := ⟨.vmem, 34, rfl⟩
abbrev cc1_stg1_0 : Ref sig .tc := ⟨.vmem, 35, rfl⟩
abbrev cc1_stg2_0 : Ref sig .tc := ⟨.vmem, 36, rfl⟩
abbrev cc1_stg3_0 : Ref sig .tc := ⟨.vmem, 37, rfl⟩
abbrev cc1_stg4_0 : Ref sig .tc := ⟨.vmem, 38, rfl⟩
abbrev cc1_stg5_0 : Ref sig .tc := ⟨.vmem, 39, rfl⟩
abbrev cc1_stg6_0 : Ref sig .tc := ⟨.vmem, 40, rfl⟩
abbrev cc1_stg7_0 : Ref sig .tc := ⟨.vmem, 41, rfl⟩
abbrev cc1_stg8_0 : Ref sig .tc := ⟨.vmem, 42, rfl⟩
abbrev cc2_stg0_0 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg2_1 : Ref sig .tc := ⟨.vmem, 47, rfl⟩
abbrev cc2_stg3_0 : Ref sig .tc := ⟨.vmem, 48, rfl⟩
abbrev cc2_stg3_1 : Ref sig .tc := ⟨.vmem, 49, rfl⟩
abbrev cc2_stg4_0 : Ref sig .tc := ⟨.vmem, 50, rfl⟩
abbrev cc2_stg5_0 : Ref sig .tc := ⟨.vmem, 51, rfl⟩
abbrev cc2_stg6_0 : Ref sig .tc := ⟨.vmem, 52, rfl⟩
abbrev cc3_stg0_0 : Ref sig .tc := ⟨.vmem, 53, rfl⟩
abbrev cc3_stg1_0 : Ref sig .tc := ⟨.vmem, 54, rfl⟩
abbrev cc3_stg1_1 : Ref sig .tc := ⟨.vmem, 55, rfl⟩
abbrev cc3_stg2_0 : Ref sig .tc := ⟨.vmem, 56, rfl⟩
abbrev cc3_stg2_1 : Ref sig .tc := ⟨.vmem, 57, rfl⟩
abbrev cc3_stg3_0 : Ref sig .tc := ⟨.vmem, 58, rfl⟩
abbrev cc3_stg4_0 : Ref sig .tc := ⟨.vmem, 59, rfl⟩
abbrev cc3_stg4_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc1_sem0_0 : DmaSem sig := 34
abbrev cc1_sem1_0 : DmaSem sig := 35
abbrev cc1_sem2_0 : DmaSem sig := 36
abbrev cc1_sem3_0 : DmaSem sig := 37
abbrev cc1_sem4_0 : DmaSem sig := 38
abbrev cc1_sem5_0 : DmaSem sig := 39
abbrev cc1_sem6_0 : DmaSem sig := 40
abbrev cc1_sem7_0 : DmaSem sig := 41
abbrev cc1_sem8_0 : DmaSem sig := 42
abbrev cc2_sem0_0 : DmaSem sig := 43
abbrev cc2_sem1_0 : DmaSem sig := 44
abbrev cc2_sem1_1 : DmaSem sig := 45
abbrev cc2_sem2_0 : DmaSem sig := 46
abbrev cc2_sem2_1 : DmaSem sig := 47
abbrev cc2_sem3_0 : DmaSem sig := 48
abbrev cc2_sem3_1 : DmaSem sig := 49
abbrev cc2_sem4_0 : DmaSem sig := 50
abbrev cc2_sem5_0 : DmaSem sig := 51
abbrev cc2_sem6_0 : DmaSem sig := 52
abbrev cc3_sem0_0 : DmaSem sig := 53
abbrev cc3_sem1_0 : DmaSem sig := 54
abbrev cc3_sem1_1 : DmaSem sig := 55
abbrev cc3_sem2_0 : DmaSem sig := 56
abbrev cc3_sem2_1 : DmaSem sig := 57
abbrev cc3_sem3_0 : DmaSem sig := 58
abbrev cc3_sem4_0 : DmaSem sig := 59
abbrev cc3_sem4_1 : DmaSem sig := 60

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let v1 : BitVec 32 := Scalar.addi v0 c0_i32
  let v2 : Index := Scalar.indexCast v1
  ![v2.toNat]
def cc0_transform_0 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S256) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S256) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S256) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S256) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S256) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S256) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S256) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S256) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S256) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S256) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S256) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S256) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S256) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_13 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S256) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S256) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off1_inb : ∀ i : grid0.Coords, ∀ (r : Fin 16), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S256) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := .none

abbrev stage1_0 : Fin 1 → Memref sig .tc .vmem S256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S8192x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x8192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S256x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S8192x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x8192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x8192 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== KernelIdeal.lean ====
variable {F : FTy → Type} [FloatOps F] [Named F]
def κ : String → Option EReal := fun
  | "mask" => some ⊥
  | "start" => some ⊥
  | _ => none
-- ==== ReferenceIdeal.lean ====
abbrev S16x16 : Shape := ⟨2, ![16, 16]⟩
abbrev S16x128 : Shape := ⟨2, ![16, 128]⟩
abbrev S16x1x128 : Shape := ⟨3, ![16, 1, 128]⟩
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S100000x256 : Shape := ⟨2, ![100000, 256]⟩
abbrev S100000 : Shape := ⟨1, ![100000]⟩
abbrev S256x100000 : Shape := ⟨2, ![256, 100000]⟩
abbrev S_ : Shape := ⟨0, ![]⟩
abbrev S16x16x1 : Shape := ⟨3, ![16, 16, 1]⟩
abbrev S1 : Shape := ⟨1, ![1]⟩
abbrev S1x1x1 : Shape := ⟨3, ![1, 1, 1]⟩
abbrev S16x16x128 : Shape := ⟨3, ![16, 16, 128]⟩
abbrev S1x1x128 : Shape := ⟨3, ![1, 1, 128]⟩
abbrev S128x256 : Shape := ⟨2, ![128, 256]⟩
abbrev S16x16x256 : Shape := ⟨3, ![16, 16, 256]⟩
abbrev S1x1x256 : Shape := ⟨3, ![1, 1, 256]⟩
abbrev S16x16x100000 : Shape := ⟨3, ![16, 16, 100000]⟩
abbrev S1x1x100000 : Shape := ⟨3, ![1, 1, 100000]⟩

abbrev nBuf : Space → Nat
  | .hbm => 87
  | .vmem => 0
  | .smem => 0
  | _ => 0

abbrev bufTy : (tb : Table) → Fin (tcTables nBuf tb) → BufTy
  | .hbm, ⟨0, _⟩ => ⟨S16x16, .i32⟩
  | .hbm, ⟨1, _⟩ => ⟨S16x128, .f32⟩
  | .hbm, ⟨2, _⟩ => ⟨S16x1x128, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S256, .f32⟩
  | .hbm, ⟨8, _⟩ => ⟨S100000x256, .f32⟩
  | .hbm, ⟨9, _⟩ => ⟨S100000, .f32⟩
  | .hbm, ⟨10, _⟩ => ⟨S256x100000, .f32⟩
  | .hbm, ⟨11, _⟩ => ⟨S_, .i32⟩
  | .hbm, ⟨12, _⟩ => ⟨S16x16, .i32⟩
  | .hbm, ⟨13, _⟩ => ⟨S16x16, .i1⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S16x16, .i32⟩
  | .hbm, ⟨18, _⟩ => ⟨S16x16x1, .i32⟩
  | .hbm, ⟨19, _⟩ => ⟨S1, .i32⟩
  | .hbm, ⟨20, _⟩ => ⟨S_, .i32⟩
  | .hbm, ⟨21, _⟩ => ⟨S16x16x1, .i32⟩
  | .hbm, ⟨22, _⟩ => ⟨S16x16x1, .i1⟩
  | .hbm, ⟨23, _⟩ => ⟨S1x1x1, .i32⟩
  | .hbm, ⟨24, _⟩ => ⟨S16x16x1, .i32⟩
  | .hbm, ⟨25, _⟩ => ⟨S16x16x1, .i1⟩
  | .hbm, ⟨26, _⟩ => ⟨S16x16x1, .i1⟩
  | .hbm, ⟨27, _⟩ => ⟨S_, .i1⟩
  | .hbm, ⟨28, _⟩ => ⟨S16x16, .i1⟩
  | .hbm, ⟨29, _⟩ => ⟨S16x16x128, .f32⟩
  | .hbm, ⟨30, _⟩ => ⟨S16x16x128, .i1⟩
  | .hbm, ⟨31, _⟩ => ⟨S_, .f32⟩
  | .hbm, ⟨32, _⟩ => ⟨S16x16x128, .f32⟩
  | .hbm, ⟨33, _⟩ => ⟨S16x16x128, .f32⟩
  | .hbm, ⟨34, _⟩ => ⟨S128x128, .f32⟩
  | .hbm, ⟨35, _⟩ => ⟨S16x16x128, .f32⟩
  | .hbm, ⟨36, _⟩ => ⟨S1x1x128, .f32⟩
  | .hbm, ⟨37, _⟩ => ⟨S16x16x128, .f32⟩
  | .hbm, ⟨38, _⟩ => ⟨S16x16x128, .f32⟩
  | .hbm, ⟨39, _⟩ => ⟨S_, .f32⟩
  | .hbm, ⟨40, _⟩ => ⟨S16x128, .f32⟩
  | .hbm, ⟨41, _⟩ => ⟨S16x1x128, .f32⟩
  | .hbm, ⟨42, _⟩ => ⟨S_, .f32⟩
  | .hbm, ⟨43, _⟩ => ⟨S16x1x128, .f32⟩
  | .hbm, ⟨44, _⟩ => ⟨S16x1x128, .f32⟩
  | .hbm, ⟨45, _⟩ => ⟨S16x16x128, .f32⟩
  | .hbm, ⟨46, _⟩ => ⟨S16x16x128, .f32⟩
  | .hbm, ⟨47, _⟩ => ⟨S16x1x128, .f32⟩
  | .hbm, ⟨48, _⟩ => ⟨S16x16x128, .f32⟩
  | .hbm, ⟨49, _⟩ => ⟨S16x16x128, .f32⟩
  | .hbm, ⟨50, _⟩ => ⟨S16x16x128, .f32⟩
  | .hbm, ⟨51, _⟩ => ⟨S16x16x128, .f32⟩
  | .hbm, ⟨52, _⟩ => ⟨S128x256, .f32⟩
  | .hbm, ⟨53, _⟩ => ⟨S16x16x256, .f32⟩
  | .hbm, ⟨54, _⟩ => ⟨S1x1x256, .f32⟩
  | .hbm, ⟨55, _⟩ => ⟨S16x16x256, .f32⟩
  | .hbm, ⟨56, _⟩ => ⟨S16x16x256, .f32⟩
  | .hbm, ⟨57, _⟩ => ⟨S_, .f32⟩
  | .hbm, ⟨58, _⟩ => ⟨S16x16x256, .f32⟩
  | .hbm, ⟨59, _⟩ => ⟨S16x16x256, .f32⟩
  | .hbm, ⟨60, _⟩ => ⟨S256x100000, .f32⟩
  | .hbm, ⟨61, _⟩ => ⟨S16x16x100000, .f32⟩
  | .hbm, ⟨62, _⟩ => ⟨S1x1x100000, .f32⟩
  | .hbm, ⟨63, _⟩ => ⟨S16x16x100000, .f32⟩
  | .hbm, ⟨64, _⟩ => ⟨S16x16x100000, .f32⟩
  | .hbm, ⟨65, _⟩ => ⟨S_, .f32⟩
  | .hbm, ⟨66, _⟩ => ⟨S16x16, .f32⟩
  | .hbm, ⟨67, _⟩ => ⟨S_, .f32⟩
  | .hbm, ⟨68, _⟩ => ⟨S16x16, .f32⟩
  | .hbm, ⟨69, _⟩ => ⟨S16x16, .f32⟩
  | .hbm, ⟨70, _⟩ => ⟨S16x16x1, .f32⟩
  | .hbm, ⟨71, _⟩ => ⟨S16x16x100000, .f32⟩
  | .hbm, ⟨72, _⟩ => ⟨S16x16x100000, .f32⟩
  | .hbm, ⟨73, _⟩ => ⟨S16x16x100000, .f32⟩
  | .hbm, ⟨74, _⟩ => ⟨S_, .f32⟩
  | .hbm, ⟨75, _⟩ => ⟨S16x16, .f32⟩
  | .hbm, ⟨76, _⟩ => ⟨S16x16x1, .f32⟩
  | .hbm, ⟨77, _⟩ => ⟨S16x16x100000, .f32⟩
  | .hbm, ⟨78, _⟩ => ⟨S16x16x100000, .f32⟩
  | .hbm, ⟨79, _⟩ => ⟨S256x100000, .f32⟩
  | .hbm, ⟨80, _⟩ => ⟨S256x100000, .f32⟩
  | .hbm, ⟨81, _⟩ => ⟨S256x100000, .i32⟩
  | .hbm, ⟨82, _⟩ => ⟨S_, .f32⟩
  | .hbm, ⟨83, _⟩ => ⟨S_, .i32⟩
  | .hbm, ⟨84, _⟩ => ⟨S256, .f32⟩
  | .hbm, ⟨85, _⟩ => ⟨S256, .i32⟩
  | .hbm, ⟨86, _⟩ => ⟨S16x16, .i32⟩
  | _, _ => ⟨S16x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_cst : Ref sig .tc := ⟨.hbm, 39, rfl⟩
abbrev main_v6 : Ref sig .tc := ⟨.hbm, 40, rfl⟩
abbrev main_v7 : Ref sig .tc := ⟨.hbm, 41, rfl⟩
abbrev main_cst_0 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_1 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_2 : Ref sig .tc := ⟨.hbm, 65, rfl⟩
abbrev main_v29 : Ref sig .tc := ⟨.hbm, 66, rfl⟩
abbrev main_cst_3 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_4 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call1_v0 : Ref sig .tc := ⟨.hbm, 81, rfl⟩
abbrev main_call1_cst : Ref sig .tc := ⟨.hbm, 82, rfl⟩
abbrev main_call1_c : Ref sig .tc := ⟨.hbm, 83, rfl⟩
abbrev main_call1_v1_0 : Ref sig .tc := ⟨.hbm, 84, rfl⟩
abbrev main_v42 : Ref sig .tc := ⟨.hbm, 85, rfl⟩
abbrev main_v43 : Ref sig .tc := ⟨.hbm, 86, rfl⟩

abbrev nD : Nat := 1
abbrev τ : Topo := Topo.v7x

variable {F : FTy → Type} [FloatOps F]
-- ==== Proof.Same.lean ====
/-
  The printed kernel and its idealization are one program at the machine's floats: they differ in two named literals only, and a
  reading of the names that gives each literal its own pattern makes them the same text.
-/
module

public import proofs.«01_k».proof.Defs
public import proofs.«01_k».proof.Proof.Gen.Kernel
public import proofs.«01_k».proof.Proof.Gen.KernelIdeal
public import Idealize.ShloMosaic.Lib.Tactic

@[expose] public section

noncomputable section

namespace Cert.Proof

open Idealize.ShloMosaic Idealize.SL.Sem

/-- The reading of the named literals that gives each its own bit pattern. -/
@[reducible] def bitsNamed : Named Bits := ⟨fun _ _ {φ} b => FloatOps.ofBits (F := Bits) φ b⟩

/-- Every execution of the printed kernel from memory `m` ends in a state that `Q` allows. -/
def KeepsK [Cert.Kernel.Facts] (m : (ℓ : Loc Cert.Kernel.nD Cert.Kernel.τ Cert.Kernel.sig) → Buf (Elt Bits) ℓ)
    (g : Dev Cert.Kernel.nD → PrngReg) (Q : PUnit × MemSt Cert.Kernel.nD Cert.Kernel.τ Cert.Kernel.sig (Elt Bits) → Prop) : Prop :=
  θ_run (Cert.Kernel.defs (F := Bits)) (onTc (τ := Cert.Kernel.τ) (Cert.Kernel.main (F := Bits))) ⟨m, fun _ => 0, g⟩ Q

/-- The same of the idealization at the machine's floats, its names read as the literals they stand for. -/
def KeepsI [Cert.KernelIdeal.Facts] (m : (ℓ : Loc Cert.KernelIdeal.nD Cert.KernelIdeal.τ Cert.KernelIdeal.sig) → Buf (Elt Bits) ℓ)
    (g : Dev Cert.KernelIdeal.nD → PrngReg) (Q : PUnit × MemSt Cert.KernelIdeal.nD Cert.KernelIdeal.τ Cert.KernelIdeal.sig (Elt Bits) → Prop) : Prop :=
  letI : Named Bits := bitsNamed
  θ_run (Cert.KernelIdeal.defs (F := Bits)) (onTc (τ := Cert.KernelIdeal.τ) (Cert.KernelIdeal.main (F := Bits))) ⟨m, fun _ => 0, g⟩ Q

/-- The two programs' runs agree. -/
theorem keeps_same [Cert.Kernel.Facts] [Cert.KernelIdeal.Facts] (m g Q) : KeepsK m g Q = KeepsI m g Q := by
  sl_kernel_rfl

end Cert.Proof

end
-- ==== Proof.Region.lean ====
/-
  One kernel call of @main as a segment between two states of the whole memory.

  The state between two steps of @main is: every unscoped buffer held at a valuation `V`, beside the
  random register and the (empty) tallies the core owes. A kernel call entered at `V` leaves some `V'` in
  which each window's array holds what the write-backs may have left there (`RDat.ArrAt`), and every other
  buffer holds what it held. The proof data are relational, so a kernel whose result depends on what lies
  past the end of a cut block is covered too.
-/
module

public import proofs.«01_k».proof.Proof.Gen.KernelIdeal.Launch
public import Idealize.ShloMosaic.Lib.Pipeline.FrameSuffix
public import Idealize.ShloMosaic.Lib.Pipeline.RegionArraysT
public import Idealize.ShloMosaic.Lib.Pipeline.RegionsForgetR

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

/-- The algebra of the run: a copy of the pipeline library's per kernel call, and nothing else used. -/
abbrev UU : Type := IProdConst (Fin 4) (UR sig nD τ) × Counters

variable {F : FTy → Type} [FloatOps F] [Named F]

local notation "𝕄" => MT nD τ sig Unit (Elt F) ℕ UU ℕ

/-- Beside the buffers: the random register at something, and the core owing nothing. -/
abbrev side (c : Dev nD) : sProp (MT nD τ sig Unit (Elt F) ℕ UU ℕ) :=
  iprop((∃ r, prngReg c r) ∗ ∃ W, owes (c.tc : Thread nD τ) (0 : CellTallies nD τ sig Unit) W)

/-- Every unscoped buffer of core `c` at the valuation `V`, beside `side`. -/
abbrev memAt (V : Valuation τ sig (Elt F)) (c : Dev nD) : sProp (MT nD τ sig Unit (Elt F) ℕ UU ℕ) :=
  iprop(StableHlo.held (c.tc : Thread nD τ) (ucRefs τ sig) V ∗ side c)

/-- No wait is recorded at any level: the kernels wait on the pipeline's own transfers only. -/
abbrev noLev : GSem nD τ sig → Finset Unit := fun _ => ∅
abbrev lev0 : GSem nD τ sig → Unit → ℕ := fun _ _ => 0
abbrev noVar : Variants := Variants.none

variable (a : (p : Fin 4) → (pcfgs (F := F) p).Adm)

/-- The invariant of every kernel body here: the scoped buffers no window stages, the random register, and the
    tables whole. -/
def inv (p : Fin 4) (c : Dev nD) : sProp (MT nD τ sig Unit (Elt F) ℕ UU ℕ) :=
  iprop(scopedRest (pcfgs (F := F) p).spec c ∗ (∃ r, prngReg c r) ∗ prefHeld (pcfgs (F := F) p).pre c (fun _ => fullShare) (a p).1)

/-- A family of relational proof data read off a valuation, with the invariant `inv`: what `kernelSeg` needs of it. -/
structure Reads (V : Valuation τ sig (Elt F))
    (rd : (p : Fin 4) → (c : Dev nD) → RDat τ (Elt F) Unit ℕ UU ℕ (pin (pcfgs (F := F)) a p) c) (p : Fin 4) : Prop where
  arr : ∀ c w, (rd p c).A w = V (Proc.devRef .tc (arrRef (pin (pcfgs (F := F)) a p).spec w))
  tbl : ∀ k, (a p).1 k = V (Proc.devRef .tc ((pcfgs (F := F) p).pre.ref k))
  phi : ∀ c t, (rd p c).Φ t = inv a p c
  owed : ∀ c t, (rd p c).owed t = 0
  recorded : ∀ c, (rd p c).recorded 0 = Set.univ
  share : ∀ c w, ((pin (pcfgs (F := F)) a p).spec w).isOut = false → (rd p c).q w = shareOf (pin (pcfgs (F := F)) a p).spec w
  body : ∀ c, (rd p c).BodyObligation (defs₀ (F := F)) noVar () Set.univ

/-- What a kernel call may make of the memory `V`: each window's array at contents the write-backs may have left, any
    buffer that is no window's array as it was. -/
def Leaves (rd : (p : Fin 4) → (c : Dev nD) → RDat τ (Elt F) Unit ℕ UU ℕ (pin (pcfgs (F := F)) a p) c) (p : Fin 4)
    (V V' : Valuation τ sig (Elt F)) (c : Dev nD) : Prop :=
  (∀ w, (rd p c).ArrAt w (pin (pcfgs (F := F)) a p).N (V' (Proc.devRef .tc (arrRef (pin (pcfgs (F := F)) a p).spec w))))
    ∧ ∀ b : Ref sig .tc, (∀ w, arrRef (pin (pcfgs (F := F)) a p).spec w ≠ b) → V' (Proc.devRef .tc b) = V (Proc.devRef .tc b)

omit [FloatOps F] [Named F] in
/-- A core's unscoped buffers are the windows' arrays, the tables and the rest. -/
theorem bufs_split {pcs : Fin 4 → PCfg sig Λ₀ (Elt F)} {p : Fin 4} (kit : PLaunchFacts₀ (nD := nD) (τ := τ) pcs p) (c : Dev nD)
    (V : (b : Ref sig .tc) → Buf (Elt F) ((c.tc : Thread nD τ).loc b)) :
    (unscopedBufs c V : sProp 𝕄) = iprop(arrBufs (pcs p).spec c V
      ∗ prefHeld (pcs p).pre c (fun _ => fullShare) (fun k => V ((pcs p).pre.ref k)) ∗ unscopedRestP (pcs p).pre (pcs p).spec c V) := by
  rw [← unscopedRest_split kit.pre c V]
  have hA : Finset.univ.image (arrRef (pcs p).spec) ⊆ Finset.univ.filter fun b : Ref sig .tc => ¬ b.isScoped := fun b hb => by
    obtain ⟨w, -, rfl⟩ := Finset.mem_image.mp hb
    exact Finset.mem_filter.mpr ⟨Finset.mem_univ _, by simp [kit.win.arr_unscoped w]⟩
  unfold unscopedBufs unscopedRest arrBufs
  rw [bigSep_sdiff_split hA]
  rfl

set_option backward.isDefEq.respectTransparency.types false in
/-- Kernel call `p` entered at the memory `V`: it leaves some memory that `Leaves` allows. -/
def kernelSeg (V : Valuation τ sig (Elt F))
    (rd : (p : Fin 4) → (c : Dev nD) → RDat τ (Elt F) Unit ℕ UU ℕ (pin (pcfgs (F := F)) a p) c) (p : Fin 4)
    (kit : PLaunchFacts₀ (nD := nD) (τ := τ) (pcfgs (F := F)) p) (h : Reads a V rd p) :
    RDat.RegionSeg (pcfgs (F := F)) a rd () (defs₀ (F := F)) noVar noLev lev0 p where
  win := kit.win
  block_pos := kit.block_pos
  stage_whole := kit.stage_whole
  K := PEmpty
  osem k := k.elim
  ho := OwnSemFacts.none _
  hbody := h.body
  hwaits c := RDat.hwaits_of_owed_zero (pcfgs (F := F)) a rd () noLev lev0 p h.owed c
  pre c := memAt V c
  post c := iprop(∃ V', ⌜Leaves a rd p V V' c⌝ ∗ memAt V' c)
  X c := iprop(∃ r, prngReg c r)
  Y c := iprop((∃ r, prngReg c r) ∗ prefHeld (pcfgs (F := F) p).pre c (fun _ => fullShare) (a p).1)
  Z c := unscopedRestP (pcfgs (F := F) p).pre (pcfgs (F := F) p).spec c (fun b => V (Proc.devRef .tc b))
  hentry c := by
    have ht : (a p).1 = fun k => V (Proc.devRef .tc ((pcfgs (F := F) p).pre.ref k)) := funext h.tbl
    dsimp only [memAt]
    rw [ownSems0_none, ← unscopedBufs_held c V, bufs_split kit c,
      (rd p c).arrBufs_eq_arrays kit.sharedIn kit.arr_whole (h.share c) _ (rd p c).A (h.arr c), ht]
    iintro ⟨⟨⟨Ha, Ht, Hz⟩, Hp, HO⟩, -, -⟩
    imodintro
    isplitl [Ha]; · iexact Ha
    isplitl [Ht]; · iexact Ht
    isplitl [HO]
    · unfold RDat.owesAt owesWithin RDat.bound
      rw [h.owed c 0, h.recorded c]
      icases HO with ⟨%W, HO⟩; iexists W; isplitr; · ipureintro; exact fun _ _ => Or.inl trivial
      iexact HO
    isplitl [Hp]; · iexact Hp
    iexact Hz
  hin c := by
    rw [h.phi]; unfold inv
    iintro ⟨Hp, Ht, Hr⟩
    isplitl [Hr]; · iexact Hr
    isplitl [Hp] <;> iassumption
  hout c := by
    rw [ownSems0_none, h.phi]; unfold inv
    iintro ⟨Hr, Hp, Ht⟩
    isplitl [Hp Ht]; · isplitl [Hp] <;> iassumption
    isplitr; · iempintro
    iexact Hr
  hexit c := by
    have ht : (a p).1 = fun k => V (Proc.devRef .tc ((pcfgs (F := F) p).pre.ref k)) := funext h.tbl
    have hsplit : ((rd p c).arraysAt (pin (pcfgs (F := F)) a p).N : sProp 𝕄)
        ⊢ iprop(∃ A, ⌜∀ w, (rd p c).ArrAt w (pin (pcfgs (F := F)) a p).N (A w)⌝ ∗ (rd p c).arrays A) := by
      unfold RDat.arraysAt RDat.arrays
      refine (BI.bigSep_exists_pi Finset.univ _).trans ?_
      iintro ⟨%A, H⟩
      ihave H' := (BI.bigSep_pure_sep Finset.univ (fun w => (rd p c).ArrAt w (pin (pcfgs (F := F)) a p).N (A w)) _) $$ H
      icases H' with ⟨%hA, H⟩
      iexists A
      isplitr
      · ipureintro; exact fun w => hA w (Finset.mem_univ w)
      iexact H
    iintro ⟨Ha, HO, ⟨Hp, Ht⟩, Hz⟩
    ihave Ha := hsplit $$ Ha
    icases Ha with ⟨%A, %hA, Ha⟩
    imodintro
    have hAw := withArrays_arr_shared (pin (pcfgs (F := F)) a p).spec c V A
      ((rd p c).ArrAt_sharedIn kit.sharedIn V (h.arr c) _ A hA)
    iexists (withArrays (pin (pcfgs (F := F)) a p).spec c V A)
    isplitr
    · ipureintro
      exact ⟨fun w => by rw [hAw w]; exact hA w, fun b hb => withArrays_of_ne _ c V A b hb⟩
    dsimp only [memAt]
    rw [← unscopedBufs_held c (withArrays (pin (pcfgs (F := F)) a p).spec c V A), bufs_split kit c,
      (rd p c).arrBufs_eq_arrays kit.sharedIn kit.arr_whole (h.share c) _ A fun w => (hAw w).symm,
      show unscopedRestP (pcfgs (F := F) p).pre (pcfgs (F := F) p).spec c (fun b => withArrays (pin (pcfgs (F := F)) a p).spec c V A (Proc.devRef .tc b))
        = (unscopedRestP (pcfgs (F := F) p).pre (pcfgs (F := F) p).spec c (fun b => V (Proc.devRef .tc b)) : sProp 𝕄) from
        unscopedRestP_withArrays _ _ c V A,
      show (fun k => withArrays (pin (pcfgs (F := F)) a p).spec c V A (Proc.devRef .tc ((pcfgs (F := F) p).pre.ref k))) = (a p).1 from
        funext fun k => (withArrays_of_ne _ c V A _ fun w e => kit.pre.disj k w e.symm).trans (h.tbl k).symm]
    isplitl [Ha Ht Hz]
    · isplitl [Ha]; · iexact Ha
      isplitl [Ht] <;> iassumption
    isplitl [Hp]; · iexact Hp
    unfold RDat.owesAt owesWithin
    rw [h.owed c (Fin.last _)]
    icases HO with ⟨%W, -, HO⟩; iexists W; iexact HO

end Cert.Proof

end
-- ==== Proof.Whole.lean ====
/-
  A load and a store of a whole staging memref, as single steps between ownerships.

  A kernel body here reads and writes its windows whole, at offset zero. Whatever buffer a memref names, if it names
  the whole of it, a load returns the contents owned, and a store leaves the stored value owned.
-/
module

public import proofs.«01_k».proof.Proof.Region
public import Idealize.ShloMosaic.Lib.LaneScatter.Own

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen

variable {F : FTy → Type} [FloatOps F] [Named F]

local notation "𝕄" => MT nD τ sig Unit (Elt F) ℕ UU ℕ

/-- A load of a whole memref at offset zero returns what is owned there. -/
theorem own_load {Λ : Labels} {defs : Defs nD τ sig (Elt F) Λ} (c : Dev nD) {cs : CoreSpace} {s : Shape} {e : EltTy} {M : Memref sig .tc cs s e} (hM : M.IsWhole)
    {X : s.Idx → Elt F e} {off : Fin s.rank → ℕ} (hz : off = fun _ => 0) {inb} {hl : M.view.LoadsAt (Rect.unit off s.size inb).toLoadRect}
    {α : Type} {k : (s.Idx → Elt F e) → Prog (TpuEff nD τ sig (Elt F) Λ .tc) α} {Q : α → sProp 𝕄} :
    (owns (c.tc : Thread nD τ) M fullShare X : sProp 𝕄)
      ⊢ iprop((owns (c.tc : Thread nD τ) M fullShare X -∗ wp frame (wpE defs noVar (c.tc : Thread nD τ) none) Set.univ (k X) Q)
        -∗ wp frame (wpE defs noVar (c.tc : Thread nD τ) none) Set.univ (Prog.op (.load M (Rect.unit off s.size inb).toLoadRect hl) k) Q) := by
  obtain ⟨⟨sp, i, hn⟩, hsp, hs, he, h⟩ := hM
  dsimp only at hsp
  subst hsp hs he
  cases h
  have hr := funext (Memref.readAt_unit_zero (Elt F) (⟨_, i, hn⟩ : Ref sig .tc) hz inb)
  rw [owns_whole_eq]
  iintro ⟨%f, %hf, H⟩ Hk
  subst hf
  iapply (wp_load (defs := defs) noVar (c.tc : Thread nD τ) none Set.univ (m := Memref.whole ⟨_, i, hn⟩) (S := Finset.univ) (hl := hl) (k := k) (Q := Q) (Finset.subset_univ _)) $$ H
  rw [hr]
  iintro H
  iapply Hk
  iexists _; isplitr; · ipureintro; rfl
  iexact H

/-- A store over a whole memref at offset zero leaves the stored value owned there. -/
theorem own_store {Λ : Labels} {defs : Defs nD τ sig (Elt F) Λ} (c : Dev nD) {cs : CoreSpace} {s : Shape} {e : EltTy} {M : Memref sig .tc cs s e} (hM : M.IsWhole)
    {X : s.Idx → Elt F e} {off : Fin s.rank → ℕ} (hz : off = fun _ => 0) {inb} {w : s.Idx → Elt F e}
    {hx : (M.access (Rect.unit off s.size inb)).Stores Finset.univ} {hm : (Finset.univ : Finset (Rect.unit off s.size inb).shape.Idx) = Finset.univ ∨ ∀ a, (Rect.unit off s.size inb).stride a = 1}
    {α : Type} {k : PUnit → Prog (TpuEff nD τ sig (Elt F) Λ .tc) α} {Q : α → sProp 𝕄} :
    (owns (c.tc : Thread nD τ) M fullShare X : sProp 𝕄)
      ⊢ iprop((owns (c.tc : Thread nD τ) M fullShare w -∗ wp frame (wpE defs noVar (c.tc : Thread nD τ) none) Set.univ (k ⟨⟩) Q)
        -∗ wp frame (wpE defs noVar (c.tc : Thread nD τ) none) Set.univ (Prog.op (.store M (Rect.unit off s.size inb) w Finset.univ hx hm) k) Q) := by
  obtain ⟨⟨sp, i, hn⟩, hsp, hs, he, h⟩ := hM
  dsimp only at hsp
  subst hsp hs he
  cases h
  have hw := Memref.write_access_unit_zero_univ (Elt F) (⟨_, i, hn⟩ : Ref sig .tc) hz inb
  rw [owns_whole_eq, owns_whole_eq]
  iintro ⟨%f, %hf, H⟩ Hk
  iapply (wp_store (defs := defs) noVar (c.tc : Thread nD τ) none Set.univ (m := Memref.whole ⟨_, i, hn⟩) (S := Finset.univ) (hx := hx) (hm := hm) (k := k) (Q := Q) (Finset.subset_univ _)) $$ H
  rw [hw]
  iintro H
  iapply Hk
  iexists _; isplitr; · ipureintro; rfl
  iexact H

/-- A load of part of a whole memref keeps what is owned there. -/
theorem own_load_part {Λ : Labels} {defs : Defs nD τ sig (Elt F) Λ} (c : Dev nD) {cs : CoreSpace} {s : Shape} {e : EltTy} {M : Memref sig .tc cs s e} (hM : M.IsWhole)
    {X : s.Idx → Elt F e} {r : Rect s} {hl : M.view.LoadsAt r.toLoadRect}
    {α : Type} {k : (r.toLoadRect.shape.Idx → Elt F e) → Prog (TpuEff nD τ sig (Elt F) Λ .tc) α} {Q : α → sProp 𝕄} :
    (owns (c.tc : Thread nD τ) M fullShare X : sProp 𝕄)
      ⊢ iprop((∀ v, owns (c.tc : Thread nD τ) M fullShare X -∗ wp frame (wpE defs noVar (c.tc : Thread nD τ) none) Set.univ (k v) Q)
        -∗ wp frame (wpE defs noVar (c.tc : Thread nD τ) none) Set.univ (Prog.op (.load M r.toLoadRect hl) k) Q) := by
  obtain ⟨⟨sp, i, hn⟩, hsp, hs, he, h⟩ := hM
  dsimp only at hsp
  subst hsp hs he
  cases h
  rw [owns_whole_eq]
  iintro ⟨%f, %hf, H⟩ Hk
  iapply (wp_load (defs := defs) noVar (c.tc : Thread nD τ) none Set.univ (m := Memref.whole ⟨_, i, hn⟩) (S := Finset.univ) (hl := hl) (k := k) (Q := Q) (Finset.subset_univ _)) $$ H
  iintro H
  iapply Hk
  iexists _; isplitr; · ipureintro; exact hf
  iexact H

/-- A store over a rectangle of a whole memref overlays the stored value there. -/
theorem own_store_part {Λ : Labels} {defs : Defs nD τ sig (Elt F) Λ} (c : Dev nD) {cs : CoreSpace} {s : Shape} {e : EltTy} {M : Memref sig .tc cs s e} (hM : M.IsWhole)
    {X : s.Idx → Elt F e} {r : Rect s} {w : r.shape.Idx → Elt F e}
    {hx : (M.access r).Stores Finset.univ} {hm : (Finset.univ : Finset r.shape.Idx) = Finset.univ ∨ ∀ a, r.stride a = 1}
    {α : Type} {k : PUnit → Prog (TpuEff nD τ sig (Elt F) Λ .tc) α} {Q : α → sProp 𝕄} :
    (owns (c.tc : Thread nD τ) M fullShare X : sProp 𝕄)
      ⊢ iprop((owns (c.tc : Thread nD τ) M fullShare (r.overlay X w) -∗ wp frame (wpE defs noVar (c.tc : Thread nD τ) none) Set.univ (k ⟨⟩) Q)
        -∗ wp frame (wpE defs noVar (c.tc : Thread nD τ) none) Set.univ (Prog.op (.store M r w Finset.univ hx hm) k) Q) := by
  obtain ⟨⟨sp, i, hn⟩, hsp, hs, he, h⟩ := hM
  dsimp only at hsp
  subst hsp hs he
  cases h
  have hw : ∀ f : (⟨_, i, hn⟩ : Ref sig .tc).ty.Contents (Elt F),
      ((Memref.whole ⟨_, i, hn⟩ : Memref sig .tc _ _ _).access r).write (Elt F) f w Finset.univ = r.overlay f w := by
    intro f; funext j
    by_cases hj : j ∈ r.set
    · obtain ⟨y, rfl⟩ := r.exists_idx_of_mem hj
      refine Eq.trans ?_ (r.overlay_emb f w y).symm
      exact View.write_emb_of_mem (v := (Memref.whole ⟨_, i, hn⟩ : Memref sig .tc _ _ _).access r) (Val := Elt F) f w (Finset.mem_univ y)
    · rw [Rect.overlay_of_not_mem _ _ _ hj]
      refine View.write_of_not_mem (v := (Memref.whole ⟨_, i, hn⟩ : Memref sig .tc _ _ _).access r) (Val := Elt F) f w _ fun h => hj ?_
      rw [← Rect.map_emb_univ]
      exact h
  rw [owns_whole_eq, owns_whole_eq]
  iintro ⟨%f, %hf, H⟩ Hk
  subst hf
  iapply (wp_store (defs := defs) noVar (c.tc : Thread nD τ) none Set.univ (m := Memref.whole ⟨_, i, hn⟩) (S := Finset.univ) (hx := hx) (hm := hm) (k := k) (Q := Q) (Finset.subset_univ _)) $$ H
  rw [hw]
  iintro H
  iapply Hk
  iexists _; isplitr; · ipureintro; rfl
  iexact H

end Cert.Proof
end
-- ==== Proof.Pass1.lean ====
/-
  The first pass over the decoder's columns: the body of `_pass1_krn`.

  At each of the 13 blocks of columns the body reads the hidden rows, a block of the weights, of the bias and of the
  noise table, and updates three running columns: the sum of the exponentials, the best score and where it was found.
  At the first block the columns are set to their starting values before they are updated.
-/
module

public import proofs.«01_k».proof.Proof.Whole
public import proofs.«01_k».proof.Proof.Gen.KernelIdeal.Points
public import proofs.«01_k».proof.Proof.Gen.KernelIdeal.Skeleton
public import Idealize.ShloMosaic.Lib.Pipeline.FrameBody

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen

variable {F : FTy → Type} [FloatOps F] [Named F]

local notation "𝕄" => MT nD τ sig Unit (Elt F) ℕ UU ℕ

/-- Offset zero on two axes. -/
theorem zero2 : (![0, 0] : Fin 2 → ℕ) = fun _ => 0 := funext fun a => by fin_cases a <;> rfl

/-- The test the body makes of its grid coordinate holds at the first block exactly. -/
theorem first_block (i : grid2.Coords) :
    (Scalar.cmpi .ne (Scalar.extui (Scalar.cmpi .eq (BitVec.ofNat 32 (i 0).val) 0#32) : BitVec 32) 0#32 = 1#1) ↔ (i 0).val = 0 := by
  have h : ∀ n : Fin 13, (Scalar.cmpi .ne (Scalar.extui (Scalar.cmpi .eq (BitVec.ofNat 32 n.val) 0#32) : BitVec 32) 0#32 = 1#1) ↔ n.val = 0 := by decide
  exact h (i 0)

/-- The value a running column has when a block's update begins: its starting value at the first block, what it held at
    any other. -/
abbrev atStart {α : Type} (i : grid2.Coords) (start held : α) : α := if (i 0).val = 0 then start else held

/-- The body of the first pass, on any whole staging buffers: the inputs stay, the three columns are updated. -/
theorem pass1_run (c : Dev nD) (i : grid2.Coords)
    {M1 : Memref sig .tc .vmem S256x256 .f32} (h1 : M1.IsWhole) {M2 : Memref sig .tc .vmem S8192x256 .f32} (h2 : M2.IsWhole)
    {M3 : Memref sig .tc .vmem S1x8192 .f32} (h3 : M3.IsWhole) {M4 : Memref sig .tc .vmem S256x8192 .f32} (h4 : M4.IsWhole)
    {M5 : Memref sig .tc .vmem S256x1 .f32} (h5 : M5.IsWhole) {M6 : Memref sig .tc .vmem S256x1 .i32} (h6 : M6.IsWhole)
    {M7 : Memref sig .tc .vmem S256x1 .f32} (h7 : M7.IsWhole)
    (X1 : Vec F S256x256 .f32) (X2 : Vec F S8192x256 .f32) (X3 : Vec F S1x8192 .f32) (X4 : Vec F S256x8192 .f32)
    (X5 : Vec F S256x1 .f32) (X6 : Vec F S256x1 .i32) (X7 : Vec F S256x1 .f32) (Q : PUnit → sProp 𝕄) :
    iprop(owns (c.tc : Thread nD τ) M1 fullShare X1 ∗ owns (c.tc : Thread nD τ) M2 fullShare X2 ∗ owns (c.tc : Thread nD τ) M3 fullShare X3
        ∗ owns (c.tc : Thread nD τ) M4 fullShare X4 ∗ owns (c.tc : Thread nD τ) M5 fullShare X5 ∗ owns (c.tc : Thread nD τ) M6 fullShare X6
        ∗ owns (c.tc : Thread nD τ) M7 fullShare X7
        ∗ (owns (c.tc : Thread nD τ) M1 fullShare X1 -∗ owns (c.tc : Thread nD τ) M2 fullShare X2 -∗ owns (c.tc : Thread nD τ) M3 fullShare X3
          -∗ owns (c.tc : Thread nD τ) M4 fullShare X4
          -∗ owns (c.tc : Thread nD τ) M5 fullShare (k2_pay13 i X1 X2 X3 (atStart i (k2_pay10 (F := F)) X5))
          -∗ owns (c.tc : Thread nD τ) M6 fullShare
              (k2_pay3 (k2_pay8 i X1 X2 X3 X4) (k2_pay9 i X1 X2 X3 X4) (atStart i (k2_pay11 (F := F)) X7) (atStart i k2_pay12 X6))
          -∗ owns (c.tc : Thread nD τ) M7 fullShare
              (k2_pay2 (k2_pay8 i X1 X2 X3 X4) (atStart i (k2_pay11 (F := F)) X7) (atStart i (k2_pay11 (F := F)) X7))
          -∗ Q ⟨⟩))
      ⊢ wp frame (wpE (defs₀ (F := F)) noVar (c.tc : Thread nD τ) none) Set.univ (cc2__pass1_krn (F := F) i M1 h1 M2 h2 M3 h3 M4 h4 M5 h5 M6 h6 M7 h7) Q := by
  rw [cc2__pass1_krn_eq_skeleton]
  unfold cc2__pass1_krn_skel
  rw [k2_part1_eq_skeleton]
  unfold k2_part1_skel
  simp only [Prog.lift, Prog.bind_op, Prog.bind_ret]
  iintro ⟨H1, H2, H3, H4, H5, H6, H7, Hk⟩
  iapply own_load c h1 zero2 $$ H1; iintro H1
  iapply own_load c h2 zero2 $$ H2; iintro H2
  iapply own_load c h3 zero2 $$ H3; iintro H3
  iapply own_load c h4 zero2 $$ H4; iintro H4
  by_cases hi : (i 0).val = 0
  rw [dif_pos ((first_block i).mpr hi)]
  simp only [Prog.bind_op, Prog.bind_ret, atStart, if_pos hi]
  iapply own_load c h5 zero2 $$ H5; iintro H5
  iapply own_store c h5 zero2 $$ H5; iintro H5
  iapply own_load c h7 zero2 $$ H7; iintro H7
  iapply own_store c h7 zero2 $$ H7; iintro H7
  iapply own_load c h6 zero2 $$ H6; iintro H6
  iapply own_store c h6 zero2 $$ H6; iintro H6
  rotate_left
  rw [dif_neg (fun h => hi ((first_block i).mp h))]
  simp only [Prog.bind_op, Prog.bind_ret, atStart, if_neg hi]
  all_goals
    iapply own_load c h5 zero2 $$ H5; iintro H5
    iapply own_load c h5 zero2 $$ H5; iintro H5
    iapply own_store c h5 zero2 $$ H5; iintro H5
    iapply own_load c h7 zero2 $$ H7; iintro H7
    iapply own_load c h7 zero2 $$ H7; iintro H7
    iapply own_load c h7 zero2 $$ H7; iintro H7
    iapply own_store c h7 zero2 $$ H7; iintro H7
    iapply own_load c h6 zero2 $$ H6; iintro H6
    iapply own_load c h6 zero2 $$ H6; iintro H6
    iapply own_store c h6 zero2 $$ H6; iintro H6
    rw [wp_pure]
    imodintro
    dsimp only
    iapply Hk $$ H1 H2 H3 H4 H5 H6 H7

/-! ## What the first pass may leave -/

variable (a : (p : Fin 4) → (pcfgs (F := F) p).Adm) (V : Valuation τ sig (Elt F))

/-- What the fetch of window `w` at block `t` puts in a staging buffer that held `d`. -/
abbrev got2 (w : Fin 7) (t : Fin cfg2.N) (d : (cfg2.win w).block.Idx → Elt F (cfg2.win w).elt) :
    (cfg2.win w).block.Idx → Elt F (cfg2.win w).elt :=
  (cfg2.win w).fill (cfg2.grid.coords t) d (((cfg2.win w).blk t).view.read (Elt F) (V (Proc.devRef .tc (arrRef spec2 w))))

/-- `X1 X2 X3 X4` are staged contents of the four inputs at block `t`. -/
def Staged2 (t : Fin cfg2.N) (X1 : Vec F S256x256 .f32) (X2 : Vec F S8192x256 .f32) (X3 : Vec F S1x8192 .f32) (X4 : Vec F S256x8192 .f32) : Prop :=
  (∃ d, X1 = got2 V 0 t d) ∧ (∃ d, X2 = got2 V 1 t d) ∧ (∃ d, X3 = got2 V 2 t d) ∧ ∃ d, X4 = got2 V 3 t d

/-- What the sum's column may hold after block `t`, if it held `Y` before. -/
def SumStep (t : Fin cfg2.N) (Y X : Vec F S256x1 .f32) : Prop :=
  ∃ X1 X2 X3 X4, Staged2 V t X1 X2 X3 X4 ∧ X = k2_pay13 (grid2.coords t) X1 X2 X3 (atStart (grid2.coords t) (k2_pay10 (F := F)) Y)

/-- What the best score's column may hold after block `t`, if it held `Y` before. -/
def BestStep (t : Fin cfg2.N) (Y X : Vec F S256x1 .f32) : Prop :=
  ∃ X1 X2 X3 X4, Staged2 V t X1 X2 X3 X4 ∧ X = k2_pay2 (k2_pay8 (grid2.coords t) X1 X2 X3 X4)
    (atStart (grid2.coords t) (k2_pay11 (F := F)) Y) (atStart (grid2.coords t) (k2_pay11 (F := F)) Y)

/-- What the best score's column may hold before block `n`. -/
def BestBefore : ℕ → Vec F S256x1 .f32 → Prop
  | 0, _ => True
  | n + 1, X => ∃ (h : n < cfg2.N) (Y : Vec F S256x1 .f32), BestBefore n Y ∧ BestStep V ⟨n, h⟩ Y X

/-- What the index's column may hold after block `t`, if it held `Y` before. -/
def IndexStep (t : Fin cfg2.N) (Y X : Vec F S256x1 .i32) : Prop :=
  ∃ X1 X2 X3 X4, Staged2 V t X1 X2 X3 X4 ∧ ∃ B, BestBefore V t.val B ∧
    X = k2_pay3 (k2_pay8 (grid2.coords t) X1 X2 X3 X4) (k2_pay9 (grid2.coords t) X1 X2 X3 X4)
      (atStart (grid2.coords t) (k2_pay11 (F := F)) B) (atStart (grid2.coords t) k2_pay12 Y)

/-- The proof data of the first pass, entered at the memory `V`. -/
def rd2 (c : Dev nD) : RDat τ (Elt F) Unit ℕ UU ℕ (pin (pcfgs (F := F)) a 2) c where
  A w := V (Proc.devRef .tc (arrRef (pin (pcfgs (F := F)) a 2).spec w))
  after := fun | 0 => fun _ Y X => X = Y | 1 => fun _ Y X => X = Y | 2 => fun _ Y X => X = Y | 3 => fun _ Y X => X = Y
               | 4 => SumStep V | 5 => IndexStep V | 6 => BestStep V
  Φ _ := inv a 2 c
  q w := shareOf (pin (pcfgs (F := F)) a 2).spec w
  owed _ := 0

/-- The best score's column is found as the blocks before have left it. -/
theorem finds2_best (c : Dev nD) : ∀ (n : ℕ) (hn : n < cfg2.N) (Y : Vec F S256x1 .f32), (rd2 a V c).Finds 6 ⟨n, hn⟩ Y → BestBefore V n Y
  | 0, _, _, _ => trivial
  | n + 1, hn, Y, h => by
      rcases (RDat.finds_of_pos (rd2 a V c) (w := 6) (t := ⟨n + 1, hn⟩) rfl (Nat.succ_ne_zero n) Y).mp h with h | ⟨Y', hY', hs⟩
      · have h12 := (flush2_6 ⟨n, Nat.lt_of_succ_lt hn⟩).mp h
        have h13 : n + 1 < 13 := hn
        simp only at h12
        omega
      · exact ⟨Nat.lt_of_succ_lt hn, Y', finds2_best c n _ Y' hY', hs⟩

/-- The body of the first pass keeps to its proof data at every block. -/
theorem body2 (c : Dev nD) : (rd2 a V c).BodyObligation (defs₀ (F := F)) noVar () Set.univ := by
  intro t Y hY
  have e0 := RDat.finds_in_eq_fetched (rd2 a V c) 0 rfl (fun _ _ _ => rfl) (fun _ _ _ h => h) t _ (hY 0)
  have e1 := (RDat.finds_of_fetch (rd2 a V c) (fetch2_1 t) _).mp (hY 1)
  have e2 := (RDat.finds_of_fetch (rd2 a V c) (fetch2_2 t) _).mp (hY 2)
  have e3 := (RDat.finds_of_fetch (rd2 a V c) (fetch2_3 t) _).mp (hY 3)
  have st : Staged2 V t (Y 0) (Y 1) (Y 2) (Y 3) := ⟨e0, e1, e2, e3⟩
  have hb := finds2_best a V c t.val t.isLt _ (hY 6)
  rw [bigSep_W2, bigSep_W2, show (rd2 a V c).Φ t.castSucc = (rd2 a V c).Φ t.succ from rfl,
    show (rd2 a V c).owesAt () t.castSucc = (rd2 a V c).owesAt () t.succ from rfl]
  iintro ⟨HΦ, HO, H0, H1, H2, H3, H4, H5, H6⟩
  iapply pass1_run c (grid2.coords t) _ _ _ _ _ _ _ (Y 0) (Y 1) (Y 2) (Y 3) (Y 4) (Y 5) (Y 6)
  iframe H0 H1 H2 H3 H4 H5 H6
  iintro H0 H1 H2 H3 H4 H5 H6
  isplitl [HΦ]; · iexact HΦ
  isplitl [HO]; · iexact HO
  isplitl [H0]; · (iexists _; isplitr; · (ipureintro; rfl)); iexact H0
  isplitl [H1]; · (iexists _; isplitr; · (ipureintro; rfl)); iexact H1
  isplitl [H2]; · (iexists _; isplitr; · (ipureintro; rfl)); iexact H2
  isplitl [H3]; · (iexists _; isplitr; · (ipureintro; rfl)); iexact H3
  isplitl [H4]
  · iexists _; isplitr; · ipureintro; exact ⟨_, _, _, _, st, rfl⟩
    iexact H4
  isplitl [H5]
  · iexists _; isplitr; · ipureintro; exact ⟨_, _, _, _, st, _, hb, rfl⟩
    iexact H5
  · iexists _; isplitr; · ipureintro; exact ⟨_, _, _, _, st, rfl⟩
    iexact H6

end Cert.Proof
end
-- ==== Proof.Blocks.lean ====
/-
  What a fetched window's staging buffer holds at an index: the array's element at the block's offset plus the index.
-/
module

public import Idealize.ShloMosaic.Lib.Pipeline.ArrRel

@[expose] public section

noncomputable section

namespace Cert.Proof

open Idealize.ShloMosaic
open Idealize.ShloMosaic.Pipeline

/-- A staging buffer filled by the fetch at point `t` holds at `y`, an index the transfer moves, the array's element at `q`,
    if `q` is on each axis the block index times the block's size plus `y`. -/
theorem fill_read {sig : RefSig} {Val : EltTy → Type} {G : Grid} (w : Window sig G) (t : Fin G.N) (hk : w.kind = .blocked)
    (d : w.block.Idx → Val w.elt) (A : w.arr.view.ty.Contents Val) (y : w.block.Idx) (q : w.shape.Idx)
    (hy : ∀ a, (y a).val < w.xsize (G.coords t) a) (hq : ∀ a, (q a).val = w.index t a * w.size a + (y a).val) :
    w.fill (G.coords t) d ((w.blk t).view.read Val A) y = w.arr.view.read Val A q := by
  unfold Window.fill
  rw [dif_pos ((w.moved_iff _ _).mpr hy)]
  have e : (w.rect t).emb (fun a => ⟨(y a).val, hy a⟩) = q := by
    funext a
    apply Fin.ext
    rw [w.rect_emb_val t _ a hk, hq a]
  rw [← e]
  rfl

/-- An element of the block that lies in the array is one that the transfer moves. -/
theorem lt_xsize {sig : RefSig} {G : Grid} (w : Window sig G) (t : Fin G.N) (hk : w.kind = .blocked) (y : w.block.Idx) (q : w.shape.Idx)
    (hq : ∀ a, (q a).val = w.index t a * w.size a + (y a).val) (a : Fin w.shape.rank) : (y a).val < w.xsize (G.coords t) a := by
  have h := w.hclip (G.coords t) a
  have hl := (q a).isLt
  rw [hq a] at hl
  rw [hk] at h
  show (y a).val < (w.clip (G.coords t) a).extent (w.size a)
  cases hc : w.clip (G.coords t) a with
  | none => exact (y a).isLt
  | some n =>
      rw [hc] at h
      exact Nat.lt_of_add_lt_add_left (hl.trans_eq h.2.2.symm)

/-- The same at any element of the block that lies in the array, whether or not the block is cut at the array's end. -/
theorem fill_at {sig : RefSig} {Val : EltTy → Type} {G : Grid} (w : Window sig G) (t : Fin G.N) (hk : w.kind = .blocked)
    (d : w.block.Idx → Val w.elt) (A : w.arr.view.ty.Contents Val) (y : w.block.Idx) (q : w.shape.Idx)
    (hq : ∀ a, (q a).val = w.index t a * w.size a + (y a).val) :
    w.fill (G.coords t) d ((w.blk t).view.read Val A) y = w.arr.view.read Val A q :=
  fill_read w t hk d A y q (lt_xsize w t hk y q hq) hq

/-- An element of the array that lies in a block is among those that the block's transfer moves. -/
theorem mem_blk {sig : RefSig} {G : Grid} (w : Window sig G) (t : Fin G.N) (hk : w.kind = .blocked) (y : w.block.Idx) (q : w.shape.Idx)
    (hq : ∀ a, (q a).val = w.index t a * w.size a + (y a).val) : w.arr.view.emb q ∈ (w.blk t).view.set := by
  have e : (w.rect t).emb (fun a => ⟨(y a).val, lt_xsize w t hk y q hq a⟩) = q := by
    funext a
    apply Fin.ext
    rw [w.rect_emb_val t _ a hk, hq a]
  rw [← e]
  exact Finset.mem_map_of_mem _ (Finset.mem_univ _)

open Idealize.SL Idealize.SL.RA in
/-- A property of every element that a write-back stores is a property of every element of the array under a flushed block. -/
theorem arr_forall {nD : Nat} {τ : Topo} {sig : RefSig} {Val : EltTy → Type} [∀ e, Nonempty (Val e)] {Λ₀ : Idealize.SL.Sem.Labels} {U : Type} [URA U]
    {cfg : Cfg sig Λ₀} {c : Dev nD} {rd : RDat τ Val Unit ℕ U ℕ cfg c} (w : Fin cfg.W)
    {A : Buf Val ((cfg.win w).arr.view.loc (c.tc : Thread nD τ))} (hA : rd.ArrAt w cfg.N A)
    (P : ((cfg.win w).arr.view.loc (c.tc : Thread nD τ)).2.ty.Idx → Val ((cfg.win w).arr.view.loc (c.tc : Thread nD τ)).2.ty.elt → Prop)
    (hP : ∀ t X, rd.Leaves w t X → ∀ y : ((cfg.win w).xblock (cfg.grid.coords t)).Idx,
      P (((cfg.win w).blk t).view.emb y) (cast (congrArg Val ((cfg.win w).blk t).view.elt_eq.symm) (X ((cfg.win w).xinj (cfg.grid.coords t) y))))
    (t : Fin cfg.N) (hf : (cfg.win w).flush t = true) (i : ((cfg.win w).arr.view.loc (c.tc : Thread nD τ)).2.ty.Idx)
    (hi : i ∈ ((cfg.win w).blk t).view.set) : P i (A i) := by
  obtain ⟨X, hX, h⟩ := hA.exists_exact
  rw [h (Function.update (fun _ _ _ => Classical.arbitrary _) w X) (fun u _ _ => by rw [Function.update_self])]
  refine Dat.arrAt_forall_of_flushed _ w P (fun t hf y => ?_) cfg.N t i t.isLt hf hi
  have hl := hP t (X t) (hX t t.isLt hf) y
  rw [← Function.update_self (β := fun w' : Fin cfg.W => Fin cfg.N → (cfg.win w').block.Idx → Val (cfg.win w').elt) w X (fun _ _ _ => Classical.arbitrary _)] at hl
  exact hl

end Cert.Proof
end
-- ==== Proof.Gather.lean ====
/-
  The gather: the body of `_gather_krn`, which copies sixteen rows of the embedding, named by the prefetched table, into
  one block of its output.
-/
module

public import proofs.«01_k».proof.Proof.Pass1
public import proofs.«01_k».proof.Proof.Blocks

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen

variable {F : FTy → Type} [FloatOps F] [Named F]

local notation "𝕄" => MT nD τ sig Unit (Elt F) ℕ UU ℕ

/-! ## The body -/

/-- Offset zero on three axes. -/
theorem zero3 : (![0, 0, 0] : Fin 3 → ℕ) = fun _ => 0 := funext fun a => by fin_cases a <;> rfl

/-- The first `n` rows of the block `X` are the rows `f`. -/
def Rows (f : ℕ → Vec F S1x1x128 .f32) (n : ℕ) (X : Vec F S1x16x128 .f32) : Prop :=
  ∀ (x : S1x16x128.Idx) (y : S1x1x128.Idx), (x 1).val < n → (y 2).val = (x 2).val → X x = f (x 1).val y

/-- One more row stored. -/
theorem Rows.store {f : ℕ → Vec F S1x1x128 .f32} {n : ℕ} {X : Vec F S1x16x128 .f32} (h : Rows f n X) (inb) {w : Vec F S1x1x128 .f32} (hw : w = f n) :
    Rows f (n + 1) ((Rect.unit (s := S1x16x128) ![0, n, 0] S1x1x128.size inb).overlay X w) := by
  intro x y hx hy
  by_cases hn : (x 1).val = n
  · have e : (Rect.unit (s := S1x16x128) ![0, n, 0] S1x1x128.size inb).emb y = x := by
      funext b
      apply Fin.ext
      rw [Rect.emb_apply]
      have h0 : (y 0).val < 1 := (y 0).isLt
      have h1 : (y 1).val < 1 := (y 1).isLt
      have h2 : (x 0).val < 1 := (x 0).isLt
      fin_cases b
      · show 0 + 1 * (y 0).val = (x 0).val; omega
      · show n + 1 * (y 1).val = (x 1).val; omega
      · show 0 + 1 * (y 2).val = (x 2).val; omega
    rw [← e, Rect.overlay_emb, e, hn, hw]
  · rw [Rect.overlay_of_not_mem _ _ _ (fun hm => ?_)]
    · exact h x y (by omega) hy
    · obtain ⟨z, rfl⟩ := LoadRect.exists_idx_of_mem _ hm
      refine hn ?_
      have h1 : (z 1).val < 1 := (z 1).isLt
      show n + 1 * (z 1).val = n
      omega

/-- No row stored. -/
theorem Rows.none (f : ℕ → Vec F S1x1x128 .f32) (X : Vec F S1x16x128 .f32) : Rows f 0 X := fun _ _ h => absurd h (Nat.not_lt_zero _)

/-- A row read, flattened and restored is the row. -/
theorem row_id (v : Vec F S1x1x128 .f32) : shapeCast S1x1x128 (shapeCast S128 v shapeCasts_S1x1x128_S128) shapeCasts_S128_S1x1x128 = v :=
  shapeCast_shapeCast v _ _

/-- The body of the gather, on any whole staging buffers: the rows stay, and the output block holds them in order. -/
theorem gather_run (c : Dev nD) (i : grid0.Coords) (Mt : Memref sig .tc .smem S256 .i32) (ht : Mt.IsWhole)
    {M0 : Memref sig .tc .vmem S1x1x128 .f32} (h0 : M0.IsWhole)
    {M1 : Memref sig .tc .vmem S1x1x128 .f32} (h1 : M1.IsWhole)
    {M2 : Memref sig .tc .vmem S1x1x128 .f32} (h2 : M2.IsWhole)
    {M3 : Memref sig .tc .vmem S1x1x128 .f32} (h3 : M3.IsWhole)
    {M4 : Memref sig .tc .vmem S1x1x128 .f32} (h4 : M4.IsWhole)
    {M5 : Memref sig .tc .vmem S1x1x128 .f32} (h5 : M5.IsWhole)
    {M6 : Memref sig .tc .vmem S1x1x128 .f32} (h6 : M6.IsWhole)
    {M7 : Memref sig .tc .vmem S1x1x128 .f32} (h7 : M7.IsWhole)
    {M8 : Memref sig .tc .vmem S1x1x128 .f32} (h8 : M8.IsWhole)
    {M9 : Memref sig .tc .vmem S1x1x128 .f32} (h9 : M9.IsWhole)
    {M10 : Memref sig .tc .vmem S1x1x128 .f32} (h10 : M10.IsWhole)
    {M11 : Memref sig .tc .vmem S1x1x128 .f32} (h11 : M11.IsWhole)
    {M12 : Memref sig .tc .vmem S1x1x128 .f32} (h12 : M12.IsWhole)
    {M13 : Memref sig .tc .vmem S1x1x128 .f32} (h13 : M13.IsWhole)
    {M14 : Memref sig .tc .vmem S1x1x128 .f32} (h14 : M14.IsWhole)
    {M15 : Memref sig .tc .vmem S1x1x128 .f32} (h15 : M15.IsWhole)
    {M16 : Memref sig .tc .vmem S1x16x128 .f32} (h16 : M16.IsWhole)
    (f : ℕ → Vec F S1x1x128 .f32) (X16 : Vec F S1x16x128 .f32)
    (Q : PUnit → sProp 𝕄) :
    iprop(owns (c.tc : Thread nD τ) M0 fullShare (f 0)
        ∗ owns (c.tc : Thread nD τ) M1 fullShare (f 1)
        ∗ owns (c.tc : Thread nD τ) M2 fullShare (f 2)
        ∗ owns (c.tc : Thread nD τ) M3 fullShare (f 3)
        ∗ owns (c.tc : Thread nD τ) M4 fullShare (f 4)
        ∗ owns (c.tc : Thread nD τ) M5 fullShare (f 5)
        ∗ owns (c.tc : Thread nD τ) M6 fullShare (f 6)
        ∗ owns (c.tc : Thread nD τ) M7 fullShare (f 7)
        ∗ owns (c.tc : Thread nD τ) M8 fullShare (f 8)
        ∗ owns (c.tc : Thread nD τ) M9 fullShare (f 9)
        ∗ owns (c.tc : Thread nD τ) M10 fullShare (f 10)
        ∗ owns (c.tc : Thread nD τ) M11 fullShare (f 11)
        ∗ owns (c.tc : Thread nD τ) M12 fullShare (f 12)
        ∗ owns (c.tc : Thread nD τ) M13 fullShare (f 13)
        ∗ owns (c.tc : Thread nD τ) M14 fullShare (f 14)
        ∗ owns (c.tc : Thread nD τ) M15 fullShare (f 15)
        ∗ owns (c.tc : Thread nD τ) M16 fullShare X16
        ∗ (∀ X, ⌜Rows f 16 X⌝ -∗ owns (c.tc : Thread nD τ) M0 fullShare (f 0)
          -∗ owns (c.tc : Thread nD τ) M1 fullShare (f 1)
          -∗ owns (c.tc : Thread nD τ) M2 fullShare (f 2)
          -∗ owns (c.tc : Thread nD τ) M3 fullShare (f 3)
          -∗ owns (c.tc : Thread nD τ) M4 fullShare (f 4)
          -∗ owns (c.tc : Thread nD τ) M5 fullShare (f 5)
          -∗ owns (c.tc : Thread nD τ) M6 fullShare (f 6)
          -∗ owns (c.tc : Thread nD τ) M7 fullShare (f 7)
          -∗ owns (c.tc : Thread nD τ) M8 fullShare (f 8)
          -∗ owns (c.tc : Thread nD τ) M9 fullShare (f 9)
          -∗ owns (c.tc : Thread nD τ) M10 fullShare (f 10)
          -∗ owns (c.tc : Thread nD τ) M11 fullShare (f 11)
          -∗ owns (c.tc : Thread nD τ) M12 fullShare (f 12)
          -∗ owns (c.tc : Thread nD τ) M13 fullShare (f 13)
          -∗ owns (c.tc : Thread nD τ) M14 fullShare (f 14)
          -∗ owns (c.tc : Thread nD τ) M15 fullShare (f 15)
          -∗ owns (c.tc : Thread nD τ) M16 fullShare X -∗ Q ⟨⟩))
      ⊢ wp frame (wpE (defs₀ (F := F)) noVar (c.tc : Thread nD τ) none) Set.univ
          (cc0__gather_krn (F := F) i Mt ht M0 h0 M1 h1 M2 h2 M3 h3 M4 h4 M5 h5 M6 h6 M7 h7 M8 h8 M9 h9 M10 h10 M11 h11 M12 h12 M13 h13 M14 h14 M15 h15 M16 h16) Q := by
  rw [cc0__gather_krn_eq_skeleton]
  unfold cc0__gather_krn_skel
  rw [k0_part1_eq_skeleton, k0_part2_eq_skeleton, k0_part3_eq_skeleton]
  unfold k0_part1_skel k0_part2_skel k0_part3_skel
  simp only [Prog.lift, Prog.bind_op, Prog.bind_ret]
  iintro ⟨H0, H1, H2, H3, H4, H5, H6, H7, H8, H9, H10, H11, H12, H13, H14, H15, H16, Hk⟩
  iapply own_load c h0 zero3 $$ H0; iintro H0; iapply own_load_part c h16 $$ H16; iintro %_ H16; iapply own_store_part c h16 $$ H16; iintro H16
  iapply own_load c h1 zero3 $$ H1; iintro H1; iapply own_load_part c h16 $$ H16; iintro %_ H16; iapply own_store_part c h16 $$ H16; iintro H16
  iapply own_load c h2 zero3 $$ H2; iintro H2; iapply own_load_part c h16 $$ H16; iintro %_ H16; iapply own_store_part c h16 $$ H16; iintro H16
  iapply own_load c h3 zero3 $$ H3; iintro H3; iapply own_load_part c h16 $$ H16; iintro %_ H16; iapply own_store_part c h16 $$ H16; iintro H16
  iapply own_load c h4 zero3 $$ H4; iintro H4; iapply own_load_part c h16 $$ H16; iintro %_ H16; iapply own_store_part c h16 $$ H16; iintro H16
  iapply own_load c h5 zero3 $$ H5; iintro H5; iapply own_load_part c h16 $$ H16; iintro %_ H16; iapply own_store_part c h16 $$ H16; iintro H16
  iapply own_load c h6 zero3 $$ H6; iintro H6; iapply own_load_part c h16 $$ H16; iintro %_ H16; iapply own_store_part c h16 $$ H16; iintro H16
  iapply own_load c h7 zero3 $$ H7; iintro H7; iapply own_load_part c h16 $$ H16; iintro %_ H16; iapply own_store_part c h16 $$ H16; iintro H16
  iapply own_load c h8 zero3 $$ H8; iintro H8; iapply own_load_part c h16 $$ H16; iintro %_ H16; iapply own_store_part c h16 $$ H16; iintro H16
  iapply own_load c h9 zero3 $$ H9; iintro H9; iapply own_load_part c h16 $$ H16; iintro %_ H16; iapply own_store_part c h16 $$ H16; iintro H16
  iapply own_load c h10 zero3 $$ H10; iintro H10; iapply own_load_part c h16 $$ H16; iintro %_ H16; iapply own_store_part c h16 $$ H16; iintro H16
  iapply own_load c h11 zero3 $$ H11; iintro H11; iapply own_load_part c h16 $$ H16; iintro %_ H16; iapply own_store_part c h16 $$ H16; iintro H16
  iapply own_load c h12 zero3 $$ H12; iintro H12; iapply own_load_part c h16 $$ H16; iintro %_ H16; iapply own_store_part c h16 $$ H16; iintro H16
  iapply own_load c h13 zero3 $$ H13; iintro H13; iapply own_load_part c h16 $$ H16; iintro %_ H16; iapply own_store_part c h16 $$ H16; iintro H16
  iapply own_load c h14 zero3 $$ H14; iintro H14; iapply own_load_part c h16 $$ H16; iintro %_ H16; iapply own_store_part c h16 $$ H16; iintro H16
  iapply own_load c h15 zero3 $$ H15; iintro H15; iapply own_load_part c h16 $$ H16; iintro %_ H16; iapply own_store_part c h16 $$ H16; iintro H16
  rw [wp_pure]
  imodintro
  iapply Hk $$ [] H0 H1 H2 H3 H4 H5 H6 H7 H8 H9 H10 H11 H12 H13 H14 H15 H16
  ipureintro
  exact Rows.store (Rows.store (Rows.store (Rows.store (Rows.store (Rows.store (Rows.store (Rows.store (Rows.store (Rows.store (Rows.store (Rows.store (Rows.store (Rows.store (Rows.store (Rows.store (Rows.none f X16) _ (row_id _)) _ (row_id _)) _ (row_id _)) _ (row_id _)) _ (row_id _)) _ (row_id _)) _ (row_id _)) _ (row_id _)) _ (row_id _)) _ (row_id _)) _ (row_id _)) _ (row_id _)) _ (row_id _)) _ (row_id _)) _ (row_id _)) _ (row_id _)

/-! ## The data -/

variable (a : (p : Fin 4) → (pcfgs (F := F) p).Adm) (V : Valuation τ sig (Elt F))

/-- The row of the embedding that the table names for place `k` of the block at coordinates `i`. -/
def rowNo (pf : pre0.Contents (Elt F)) (i : grid0.Coords) (k : Fin 16) : ℕ :=
  (pf.at 0 (Rect.unit (s := S256) (k0_off1 i (BitVec.ofNat 32 k.val)) S1.size (k0_off1_inb i k)) numel1_S1 : BitVec 32).toNat

/-- `Y` is the row of the embedding's array that the table names for place `k` of block `t`. -/
def IsRow (t : Fin grid0.N) (k : Fin 16) (Y : Vec F S1x1x128 .f32) : Prop :=
  ∀ (y : S1x1x128.Idx) (q : S100000x1x128.Idx), (q 0).val = rowNo (a 0).1 (grid0.coords t) k → (q 2).val = (y 2).val →
    Y y = (V (Proc.devRef .tc main_v1) : Vec F S100000x1x128 .f32) q

/-- What the output's staging buffer holds after block `t`: the sixteen rows that the table names. -/
def GatherOut (t : Fin grid0.N) (X : Vec F S1x16x128 .f32) : Prop :=
  ∀ (x : S1x16x128.Idx) (q : S100000x1x128.Idx), (q 0).val = rowNo (a 0).1 (grid0.coords t) (x 1) → (q 2).val = (x 2).val →
    X x = (V (Proc.devRef .tc main_v1) : Vec F S100000x1x128 .f32) q

/-- The proof data of the gather, entered at the memory `V`. -/
def rd0 (c : Dev nD) : RDat τ (Elt F) Unit ℕ UU ℕ (pin (pcfgs (F := F)) a 0) c where
  A w := V (Proc.devRef .tc (arrRef (pin (pcfgs (F := F)) a 0).spec w))
  after := fun | 0 => fun _ Y X => X = Y | 1 => fun _ Y X => X = Y | 2 => fun _ Y X => X = Y | 3 => fun _ Y X => X = Y | 4 => fun _ Y X => X = Y | 5 => fun _ Y X => X = Y | 6 => fun _ Y X => X = Y | 7 => fun _ Y X => X = Y | 8 => fun _ Y X => X = Y | 9 => fun _ Y X => X = Y | 10 => fun _ Y X => X = Y | 11 => fun _ Y X => X = Y | 12 => fun _ Y X => X = Y | 13 => fun _ Y X => X = Y | 14 => fun _ Y X => X = Y | 15 => fun _ Y X => X = Y
               | 16 => fun t _ X => GatherOut a V t X | ⟨_ + 17, h⟩ => absurd h (Nat.not_lt.2 (Nat.le_add_left _ _))
  Φ _ := inv a 0 c
  q w := shareOf (pin (pcfgs (F := F)) a 0).spec w
  owed _ := 0

/-- Where an element of a one-row block sits in the array. -/
theorem row_pos (r : ℕ) (y : S1x1x128.Idx) (q : S100000x1x128.Idx) (h0 : (q 0).val = r) (h2 : (q 2).val = (y 2).val) :
    ∀ b : Fin 3, (q b).val = (![r, 0, 0] : Fin 3 → ℕ) b * S1x1x128.size b + (y b).val := by
  have e0 : (y 0).val < 1 := (y 0).isLt
  have e1 : (y 1).val < 1 := (y 1).isLt
  have e2 : (q 1).val < 1 := (q 1).isLt
  intro b
  fin_cases b
  · show (q 0).val = r * 1 + (y 0).val; omega
  · show (q 1).val = 0 * 1 + (y 1).val; omega
  · show (q 2).val = 0 * 128 + (y 2).val; omega

/-- The body keeps to its proof data at every block. -/
theorem body0 (c : Dev nD) : (rd0 a V c).BodyObligation (defs₀ (F := F)) noVar () Set.univ := by
  intro t Y hY
  have r0 : IsRow a V t 0 (Y 0) := fun y q h0 h2 => by
    obtain ⟨d, hd⟩ := RDat.finds_in_eq_fetched (rd0 a V c) 0 rfl (fun _ _ _ => rfl) (fun _ _ _ h => h) t _ (hY 0)
    exact (congrFun hd y).trans (fill_read ((pin (pcfgs (F := F)) a 0).win 0) t rfl d _ y q (fun b => (y b).isLt) (row_pos _ y q h0 h2))
  have r1 : IsRow a V t 1 (Y 1) := fun y q h0 h2 => by
    obtain ⟨d, hd⟩ := RDat.finds_in_eq_fetched (rd0 a V c) 1 rfl (fun _ _ _ => rfl) (fun _ _ _ h => h) t _ (hY 1)
    exact (congrFun hd y).trans (fill_read ((pin (pcfgs (F := F)) a 0).win 1) t rfl d _ y q (fun b => (y b).isLt) (row_pos _ y q h0 h2))
  have r2 : IsRow a V t 2 (Y 2) := fun y q h0 h2 => by
    obtain ⟨d, hd⟩ := RDat.finds_in_eq_fetched (rd0 a V c) 2 rfl (fun _ _ _ => rfl) (fun _ _ _ h => h) t _ (hY 2)
    exact (congrFun hd y).trans (fill_read ((pin (pcfgs (F := F)) a 0).win 2) t rfl d _ y q (fun b => (y b).isLt) (row_pos _ y q h0 h2))
  have r3 : IsRow a V t 3 (Y 3) := fun y q h0 h2 => by
    obtain ⟨d, hd⟩ := RDat.finds_in_eq_fetched (rd0 a V c) 3 rfl (fun _ _ _ => rfl) (fun _ _ _ h => h) t _ (hY 3)
    exact (congrFun hd y).trans (fill_read ((pin (pcfgs (F := F)) a 0).win 3) t rfl d _ y q (fun b => (y b).isLt) (row_pos _ y q h0 h2))
  have r4 : IsRow a V t 4 (Y 4) := fun y q h0 h2 => by
    obtain ⟨d, hd⟩ := RDat.finds_in_eq_fetched (rd0 a V c) 4 rfl (fun _ _ _ => rfl) (fun _ _ _ h => h) t _ (hY 4)
    exact (congrFun hd y).trans (fill_read ((pin (pcfgs (F := F)) a 0).win 4) t rfl d _ y q (fun b => (y b).isLt) (row_pos _ y q h0 h2))
  have r5 : IsRow a V t 5 (Y 5) := fun y q h0 h2 => by
    obtain ⟨d, hd⟩ := RDat.finds_in_eq_fetched (rd0 a V c) 5 rfl (fun _ _ _ => rfl) (fun _ _ _ h => h) t _ (hY 5)
    exact (congrFun hd y).trans (fill_read ((pin (pcfgs (F := F)) a 0).win 5) t rfl d _ y q (fun b => (y b).isLt) (row_pos _ y q h0 h2))
  have r6 : IsRow a V t 6 (Y 6) := fun y q h0 h2 => by
    obtain ⟨d, hd⟩ := RDat.finds_in_eq_fetched (rd0 a V c) 6 rfl (fun _ _ _ => rfl) (fun _ _ _ h => h) t _ (hY 6)
    exact (congrFun hd y).trans (fill_read ((pin (pcfgs (F := F)) a 0).win 6) t rfl d _ y q (fun b => (y b).isLt) (row_pos _ y q h0 h2))
  have r7 : IsRow a V t 7 (Y 7) := fun y q h0 h2 => by
    obtain ⟨d, hd⟩ := RDat.finds_in_eq_fetched (rd0 a V c) 7 rfl (fun _ _ _ => rfl) (fun _ _ _ h => h) t _ (hY 7)
    exact (congrFun hd y).trans (fill_read ((pin (pcfgs (F := F)) a 0).win 7) t rfl d _ y q (fun b => (y b).isLt) (row_pos _ y q h0 h2))
  have r8 : IsRow a V t 8 (Y 8) := fun y q h0 h2 => by
    obtain ⟨d, hd⟩ := RDat.finds_in_eq_fetched (rd0 a V c) 8 rfl (fun _ _ _ => rfl) (fun _ _ _ h => h) t _ (hY 8)
    exact (congrFun hd y).trans (fill_read ((pin (pcfgs (F := F)) a 0).win 8) t rfl d _ y q (fun b => (y b).isLt) (row_pos _ y q h0 h2))
  have r9 : IsRow a V t 9 (Y 9) := fun y q h0 h2 => by
    obtain ⟨d, hd⟩ := RDat.finds_in_eq_fetched (rd0 a V c) 9 rfl (fun _ _ _ => rfl) (fun _ _ _ h => h) t _ (hY 9)
    exact (congrFun hd y).trans (fill_read ((pin (pcfgs (F := F)) a 0).win 9) t rfl d _ y q (fun b => (y b).isLt) (row_pos _ y q h0 h2))
  have r10 : IsRow a V t 10 (Y 10) := fun y q h0 h2 => by
    obtain ⟨d, hd⟩ := RDat.finds_in_eq_fetched (rd0 a V c) 10 rfl (fun _ _ _ => rfl) (fun _ _ _ h => h) t _ (hY 10)
    exact (congrFun hd y).trans (fill_read ((pin (pcfgs (F := F)) a 0).win 10) t rfl d _ y q (fun b => (y b).isLt) (row_pos _ y q h0 h2))
  have r11 : IsRow a V t 11 (Y 11) := fun y q h0 h2 => by
    obtain ⟨d, hd⟩ := RDat.finds_in_eq_fetched (rd0 a V c) 11 rfl (fun _ _ _ => rfl) (fun _ _ _ h => h) t _ (hY 11)
    exact (congrFun hd y).trans (fill_read ((pin (pcfgs (F := F)) a 0).win 11) t rfl d _ y q (fun b => (y b).isLt) (row_pos _ y q h0 h2))
  have r12 : IsRow a V t 12 (Y 12) := fun y q h0 h2 => by
    obtain ⟨d, hd⟩ := RDat.finds_in_eq_fetched (rd0 a V c) 12 rfl (fun _ _ _ => rfl) (fun _ _ _ h => h) t _ (hY 12)
    exact (congrFun hd y).trans (fill_read ((pin (pcfgs (F := F)) a 0).win 12) t rfl d _ y q (fun b => (y b).isLt) (row_pos _ y q h0 h2))
  have r13 : IsRow a V t 13 (Y 13) := fun y q h0 h2 => by
    obtain ⟨d, hd⟩ := RDat.finds_in_eq_fetched (rd0 a V c) 13 rfl (fun _ _ _ => rfl) (fun _ _ _ h => h) t _ (hY 13)
    exact (congrFun hd y).trans (fill_read ((pin (pcfgs (F := F)) a 0).win 13) t rfl d _ y q (fun b => (y b).isLt) (row_pos _ y q h0 h2))
  have r14 : IsRow a V t 14 (Y 14) := fun y q h0 h2 => by
    obtain ⟨d, hd⟩ := RDat.finds_in_eq_fetched (rd0 a V c) 14 rfl (fun _ _ _ => rfl) (fun _ _ _ h => h) t _ (hY 14)
    exact (congrFun hd y).trans (fill_read ((pin (pcfgs (F := F)) a 0).win 14) t rfl d _ y q (fun b => (y b).isLt) (row_pos _ y q h0 h2))
  have r15 : IsRow a V t 15 (Y 15) := fun y q h0 h2 => by
    obtain ⟨d, hd⟩ := RDat.finds_in_eq_fetched (rd0 a V c) 15 rfl (fun _ _ _ => rfl) (fun _ _ _ h => h) t _ (hY 15)
    exact (congrFun hd y).trans (fill_read ((pin (pcfgs (F := F)) a 0).win 15) t rfl d _ y q (fun b => (y b).isLt) (row_pos _ y q h0 h2))
  let f : ℕ → Vec F S1x1x128 .f32 := fun | 0 => Y 0 | 1 => Y 1 | 2 => Y 2 | 3 => Y 3 | 4 => Y 4 | 5 => Y 5 | 6 => Y 6 | 7 => Y 7 | 8 => Y 8 | 9 => Y 9 | 10 => Y 10 | 11 => Y 11 | 12 => Y 12 | 13 => Y 13 | 14 => Y 14 | _ => Y 15
  have hf : ∀ k : Fin 16, IsRow a V t k (f k.val) := by
    intro k
    fin_cases k
    exacts [r0, r1, r2, r3, r4, r5, r6, r7, r8, r9, r10, r11, r12, r13, r14, r15]
  rw [bigSep_W0, bigSep_W0, show (rd0 a V c).Φ t.castSucc = (rd0 a V c).Φ t.succ from rfl,
    show (rd0 a V c).owesAt () t.castSucc = (rd0 a V c).owesAt () t.succ from rfl]
  iintro ⟨HΦ, HO, H0, H1, H2, H3, H4, H5, H6, H7, H8, H9, H10, H11, H12, H13, H14, H15, H16⟩
  iapply gather_run c (grid0.coords t) (Memref.whole main_v0) (Memref.isWhole_whole _) (hstage0_0 (((pin (pcfgs (F := F)) a 0).slots t 0).cast nbuf0_0)) (hstage0_1 (((pin (pcfgs (F := F)) a 0).slots t 1).cast nbuf0_1)) (hstage0_2 (((pin (pcfgs (F := F)) a 0).slots t 2).cast nbuf0_2)) (hstage0_3 (((pin (pcfgs (F := F)) a 0).slots t 3).cast nbuf0_3)) (hstage0_4 (((pin (pcfgs (F := F)) a 0).slots t 4).cast nbuf0_4)) (hstage0_5 (((pin (pcfgs (F := F)) a 0).slots t 5).cast nbuf0_5)) (hstage0_6 (((pin (pcfgs (F := F)) a 0).slots t 6).cast nbuf0_6)) (hstage0_7 (((pin (pcfgs (F := F)) a 0).slots t 7).cast nbuf0_7)) (hstage0_8 (((pin (pcfgs (F := F)) a 0).slots t 8).cast nbuf0_8)) (hstage0_9 (((pin (pcfgs (F := F)) a 0).slots t 9).cast nbuf0_9)) (hstage0_10 (((pin (pcfgs (F := F)) a 0).slots t 10).cast nbuf0_10)) (hstage0_11 (((pin (pcfgs (F := F)) a 0).slots t 11).cast nbuf0_11)) (hstage0_12 (((pin (pcfgs (F := F)) a 0).slots t 12).cast nbuf0_12)) (hstage0_13 (((pin (pcfgs (F := F)) a 0).slots t 13).cast nbuf0_13)) (hstage0_14 (((pin (pcfgs (F := F)) a 0).slots t 14).cast nbuf0_14)) (hstage0_15 (((pin (pcfgs (F := F)) a 0).slots t 15).cast nbuf0_15)) (hstage0_16 (((pin (pcfgs (F := F)) a 0).slots t 16).cast nbuf0_16))
    f (Y 16)
  iframe H0 H1 H2 H3 H4 H5 H6 H7 H8 H9 H10 H11 H12 H13 H14 H15 H16
  iintro %X %hX H0 H1 H2 H3 H4 H5 H6 H7 H8 H9 H10 H11 H12 H13 H14 H15 H16
  isplitl [HΦ]; · iexact HΦ
  isplitl [HO]; · iexact HO
  isplitl [H0]; · (iexists _; isplitr; · (ipureintro; rfl)); iexact H0
  isplitl [H1]; · (iexists _; isplitr; · (ipureintro; rfl)); iexact H1
  isplitl [H2]; · (iexists _; isplitr; · (ipureintro; rfl)); iexact H2
  isplitl [H3]; · (iexists _; isplitr; · (ipureintro; rfl)); iexact H3
  isplitl [H4]; · (iexists _; isplitr; · (ipureintro; rfl)); iexact H4
  isplitl [H5]; · (iexists _; isplitr; · (ipureintro; rfl)); iexact H5
  isplitl [H6]; · (iexists _; isplitr; · (ipureintro; rfl)); iexact H6
  isplitl [H7]; · (iexists _; isplitr; · (ipureintro; rfl)); iexact H7
  isplitl [H8]; · (iexists _; isplitr; · (ipureintro; rfl)); iexact H8
  isplitl [H9]; · (iexists _; isplitr; · (ipureintro; rfl)); iexact H9
  isplitl [H10]; · (iexists _; isplitr; · (ipureintro; rfl)); iexact H10
  isplitl [H11]; · (iexists _; isplitr; · (ipureintro; rfl)); iexact H11
  isplitl [H12]; · (iexists _; isplitr; · (ipureintro; rfl)); iexact H12
  isplitl [H13]; · (iexists _; isplitr; · (ipureintro; rfl)); iexact H13
  isplitl [H14]; · (iexists _; isplitr; · (ipureintro; rfl)); iexact H14
  isplitl [H15]; · (iexists _; isplitr; · (ipureintro; rfl)); iexact H15
  iexists X; isplitr
  · ipureintro
    intro x q h0 h2
    let y : S1x1x128.Idx := fun | 0 => (0 : Fin 1) | 1 => (0 : Fin 1) | 2 => (x 2 : Fin 128)
    exact (hX x y (x 1).isLt rfl).trans (hf (x 1) y q h0 h2)
  iexact H16

end Cert.Proof
end
-- ==== Proof.Hidden.lean ====
/-
  The hidden layer: the body of `_h_krn`, which has no grid and stores one array of hidden rows.
-/
module

public import proofs.«01_k».proof.Proof.Pass1

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen

variable {F : FTy → Type} [FloatOps F] [Named F]

local notation "𝕄" => MT nD τ sig Unit (Elt F) ℕ UU ℕ

/-- The body of the hidden layer, on any whole staging buffers: the inputs stay, the output is its stored value. -/
theorem hidden_run (c : Dev nD) {M1 : Memref sig .tc .vmem S256x128 .f32} (h1 : M1.IsWhole)
    {M2 : Memref sig .tc .vmem S128x128 .f32} (h2 : M2.IsWhole)
    {M3 : Memref sig .tc .vmem S1x128 .f32} (h3 : M3.IsWhole)
    {M4 : Memref sig .tc .vmem S256x256 .f32} (h4 : M4.IsWhole)
    {M5 : Memref sig .tc .vmem S256x128 .f32} (h5 : M5.IsWhole)
    {M6 : Memref sig .tc .vmem S256x128 .f32} (h6 : M6.IsWhole)
    {M7 : Memref sig .tc .vmem S256x128 .f32} (h7 : M7.IsWhole)
    {M8 : Memref sig .tc .vmem S1x256 .f32} (h8 : M8.IsWhole)
    {M9 : Memref sig .tc .vmem S256x256 .f32} (h9 : M9.IsWhole)
    (X1 : Vec F S256x128 .f32) (X2 : Vec F S128x128 .f32) (X3 : Vec F S1x128 .f32) (X4 : Vec F S256x256 .f32) (X5 : Vec F S256x128 .f32) (X6 : Vec F S256x128 .f32) (X7 : Vec F S256x128 .f32) (X8 : Vec F S1x256 .f32) (X9 : Vec F S256x256 .f32)
    (Q : PUnit → sProp 𝕄) :
    iprop(owns (c.tc : Thread nD τ) M1 fullShare X1
        ∗ owns (c.tc : Thread nD τ) M2 fullShare X2
        ∗ owns (c.tc : Thread nD τ) M3 fullShare X3
        ∗ owns (c.tc : Thread nD τ) M4 fullShare X4
        ∗ owns (c.tc : Thread nD τ) M5 fullShare X5
        ∗ owns (c.tc : Thread nD τ) M6 fullShare X6
        ∗ owns (c.tc : Thread nD τ) M7 fullShare X7
        ∗ owns (c.tc : Thread nD τ) M8 fullShare X8
        ∗ owns (c.tc : Thread nD τ) M9 fullShare X9
        ∗ (owns (c.tc : Thread nD τ) M1 fullShare X1
          -∗ owns (c.tc : Thread nD τ) M2 fullShare X2
          -∗ owns (c.tc : Thread nD τ) M3 fullShare X3
          -∗ owns (c.tc : Thread nD τ) M4 fullShare X4
          -∗ owns (c.tc : Thread nD τ) M5 fullShare X5
          -∗ owns (c.tc : Thread nD τ) M6 fullShare X6
          -∗ owns (c.tc : Thread nD τ) M7 fullShare X7
          -∗ owns (c.tc : Thread nD τ) M8 fullShare X8
          -∗ owns (c.tc : Thread nD τ) M9 fullShare (k1_pay1 X1 X2 X3 X4 X5 X6 X7 X8)
          -∗ Q ⟨⟩))
      ⊢ wp frame (wpE (defs₀ (F := F)) noVar (c.tc : Thread nD τ) none) Set.univ (cc1__h_krn (F := F) M1 h1 M2 h2 M3 h3 M4 h4 M5 h5 M6 h6 M7 h7 M8 h8 M9 h9) Q := by
  rw [cc1__h_krn_eq_skeleton]
  unfold cc1__h_krn_skel
  simp only [Prog.lift, Prog.bind_op, Prog.bind_ret]
  iintro ⟨H1, H2, H3, H4, H5, H6, H7, H8, H9, Hk⟩
  iapply own_load c h1 zero2 $$ H1; iintro H1
  iapply own_load c h2 zero2 $$ H2; iintro H2
  iapply own_load c h3 zero2 $$ H3; iintro H3
  iapply own_load c h4 zero2 $$ H4; iintro H4
  iapply own_load c h5 zero2 $$ H5; iintro H5
  iapply own_load c h6 zero2 $$ H6; iintro H6
  iapply own_load c h7 zero2 $$ H7; iintro H7
  iapply own_load c h8 zero2 $$ H8; iintro H8
  iapply own_load c h9 zero2 $$ H9; iintro H9
  iapply own_store c h9 zero2 $$ H9; iintro H9
  rw [wp_pure]
  imodintro
  iapply Hk $$ H1 H2 H3 H4 H5 H6 H7 H8 H9

variable (a : (p : Fin 4) → (pcfgs (F := F) p).Adm) (V : Valuation τ sig (Elt F))

/-- What the fetch of window `w` at point `t` puts in a staging buffer that held `d`. -/
abbrev got1 (w : Fin 9) (t : Fin cfg1.N) (d : (cfg1.win w).block.Idx → Elt F (cfg1.win w).elt) :
    (cfg1.win w).block.Idx → Elt F (cfg1.win w).elt :=
  (cfg1.win w).fill (cfg1.grid.coords t) d (((cfg1.win w).blk t).view.read (Elt F) (V (Proc.devRef .tc (arrRef spec1 w))))

/-- What the hidden rows' staging buffer holds after the body. -/
def HiddenOut (t : Fin cfg1.N) (X : Vec F S256x256 .f32) : Prop :=
  ∃ X1 X2 X3 X4 X5 X6 X7 X8, (∃ d, X1 = got1 V 0 t d) ∧ (∃ d, X2 = got1 V 1 t d) ∧ (∃ d, X3 = got1 V 2 t d) ∧ (∃ d, X4 = got1 V 3 t d) ∧ (∃ d, X5 = got1 V 4 t d) ∧ (∃ d, X6 = got1 V 5 t d) ∧ (∃ d, X7 = got1 V 6 t d) ∧ (∃ d, X8 = got1 V 7 t d)
    ∧ X = k1_pay1 X1 X2 X3 X4 X5 X6 X7 X8

/-- The proof data of this call, entered at the memory `V`. -/
def rd1 (c : Dev nD) : RDat τ (Elt F) Unit ℕ UU ℕ (pin (pcfgs (F := F)) a 1) c where
  A w := V (Proc.devRef .tc (arrRef (pin (pcfgs (F := F)) a 1).spec w))
  after := fun | 0 => fun _ Y X => X = Y | 1 => fun _ Y X => X = Y | 2 => fun _ Y X => X = Y | 3 => fun _ Y X => X = Y | 4 => fun _ Y X => X = Y | 5 => fun _ Y X => X = Y | 6 => fun _ Y X => X = Y | 7 => fun _ Y X => X = Y
               | 8 => fun t _ X => HiddenOut V t X
  Φ _ := inv a 1 c
  q w := shareOf (pin (pcfgs (F := F)) a 1).spec w
  owed _ := 0

/-- The body keeps to its proof data at every point. -/
theorem body1 (c : Dev nD) : (rd1 a V c).BodyObligation (defs₀ (F := F)) noVar () Set.univ := by
  intro t Y hY
  have e0 := (RDat.finds_of_fetch (rd1 a V c) (fetch1_0 t) _).mp (hY 0)
  have e1 := (RDat.finds_of_fetch (rd1 a V c) (fetch1_1 t) _).mp (hY 1)
  have e2 := (RDat.finds_of_fetch (rd1 a V c) (fetch1_2 t) _).mp (hY 2)
  have e3 := (RDat.finds_of_fetch (rd1 a V c) (fetch1_3 t) _).mp (hY 3)
  have e4 := (RDat.finds_of_fetch (rd1 a V c) (fetch1_4 t) _).mp (hY 4)
  have e5 := (RDat.finds_of_fetch (rd1 a V c) (fetch1_5 t) _).mp (hY 5)
  have e6 := (RDat.finds_of_fetch (rd1 a V c) (fetch1_6 t) _).mp (hY 6)
  have e7 := (RDat.finds_of_fetch (rd1 a V c) (fetch1_7 t) _).mp (hY 7)
  have st : HiddenOut V t (k1_pay1 (Y 0) (Y 1) (Y 2) (Y 3) (Y 4) (Y 5) (Y 6) (Y 7)) := ⟨_, _, _, _, _, _, _, _, e0 , e1 , e2 , e3 , e4 , e5 , e6 , e7, rfl⟩
  rw [bigSep_W1, bigSep_W1, show (rd1 a V c).Φ t.castSucc = (rd1 a V c).Φ t.succ from rfl,
    show (rd1 a V c).owesAt () t.castSucc = (rd1 a V c).owesAt () t.succ from rfl]
  iintro ⟨HΦ, HO, H0, H1, H2, H3, H4, H5, H6, H7, H8⟩
  iapply hidden_run c (hstage1_0 0) (hstage1_1 0) (hstage1_2 0) (hstage1_3 0) (hstage1_4 0) (hstage1_5 0) (hstage1_6 0) (hstage1_7 0) (hstage1_8 0)
    (Y 0) (Y 1) (Y 2) (Y 3) (Y 4) (Y 5) (Y 6) (Y 7) (Y 8)
  iframe H0 H1 H2 H3 H4 H5 H6 H7 H8
  iintro H0 H1 H2 H3 H4 H5 H6 H7 H8
  isplitl [HΦ]; · iexact HΦ
  isplitl [HO]; · iexact HO
  isplitl [H0]; · (iexists _; isplitr; · (ipureintro; rfl)); iexact H0
  isplitl [H1]; · (iexists _; isplitr; · (ipureintro; rfl)); iexact H1
  isplitl [H2]; · (iexists _; isplitr; · (ipureintro; rfl)); iexact H2
  isplitl [H3]; · (iexists _; isplitr; · (ipureintro; rfl)); iexact H3
  isplitl [H4]; · (iexists _; isplitr; · (ipureintro; rfl)); iexact H4
  isplitl [H5]; · (iexists _; isplitr; · (ipureintro; rfl)); iexact H5
  isplitl [H6]; · (iexists _; isplitr; · (ipureintro; rfl)); iexact H6
  isplitl [H7]; · (iexists _; isplitr; · (ipureintro; rfl)); iexact H7
  iexists _; isplitr; · ipureintro; exact st
  iexact H8

end Cert.Proof
end
-- ==== Proof.Pass2.lean ====
/-
  The second pass over the decoder's columns: the body of `_pass2_krn`.

  At each of the 13 blocks of columns the body computes the exponentials again and divides them by the whole row's sum.
-/
module

public import proofs.«01_k».proof.Proof.Pass1

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen

variable {F : FTy → Type} [FloatOps F] [Named F]

local notation "𝕄" => MT nD τ sig Unit (Elt F) ℕ UU ℕ

/-- The body of the second pass, on any whole staging buffers: the inputs stay, the output is its stored value. -/
theorem pass2_run (c : Dev nD) (i : grid3.Coords)
    {M1 : Memref sig .tc .vmem S256x256 .f32} (h1 : M1.IsWhole)
    {M2 : Memref sig .tc .vmem S8192x256 .f32} (h2 : M2.IsWhole)
    {M3 : Memref sig .tc .vmem S1x8192 .f32} (h3 : M3.IsWhole)
    {M4 : Memref sig .tc .vmem S256x1 .f32} (h4 : M4.IsWhole)
    {M5 : Memref sig .tc .vmem S256x8192 .f32} (h5 : M5.IsWhole)
    (X1 : Vec F S256x256 .f32) (X2 : Vec F S8192x256 .f32) (X3 : Vec F S1x8192 .f32) (X4 : Vec F S256x1 .f32) (X5 : Vec F S256x8192 .f32)
    (Q : PUnit → sProp 𝕄) :
    iprop(owns (c.tc : Thread nD τ) M1 fullShare X1
        ∗ owns (c.tc : Thread nD τ) M2 fullShare X2
        ∗ owns (c.tc : Thread nD τ) M3 fullShare X3
        ∗ owns (c.tc : Thread nD τ) M4 fullShare X4
        ∗ owns (c.tc : Thread nD τ) M5 fullShare X5
        ∗ (owns (c.tc : Thread nD τ) M1 fullShare X1
          -∗ owns (c.tc : Thread nD τ) M2 fullShare X2
          -∗ owns (c.tc : Thread nD τ) M3 fullShare X3
          -∗ owns (c.tc : Thread nD τ) M4 fullShare X4
          -∗ owns (c.tc : Thread nD τ) M5 fullShare (k3_pay1 X1 X2 X3 X4)
          -∗ Q ⟨⟩))
      ⊢ wp frame (wpE (defs₀ (F := F)) noVar (c.tc : Thread nD τ) none) Set.univ (cc3__pass2_krn (F := F) i M1 h1 M2 h2 M3 h3 M4 h4 M5 h5) Q := by
  rw [cc3__pass2_krn_eq_skeleton]
  unfold cc3__pass2_krn_skel
  simp only [Prog.lift, Prog.bind_op, Prog.bind_ret]
  iintro ⟨H1, H2, H3, H4, H5, Hk⟩
  iapply own_load c h1 zero2 $$ H1; iintro H1
  iapply own_load c h2 zero2 $$ H2; iintro H2
  iapply own_load c h3 zero2 $$ H3; iintro H3
  iapply own_load c h4 zero2 $$ H4; iintro H4
  iapply own_load c h5 zero2 $$ H5; iintro H5
  iapply own_store c h5 zero2 $$ H5; iintro H5
  rw [wp_pure]
  imodintro
  iapply Hk $$ H1 H2 H3 H4 H5

variable (a : (p : Fin 4) → (pcfgs (F := F) p).Adm) (V : Valuation τ sig (Elt F))

/-- What the fetch of window `w` at point `t` puts in a staging buffer that held `d`. -/
abbrev got3 (w : Fin 5) (t : Fin cfg3.N) (d : (cfg3.win w).block.Idx → Elt F (cfg3.win w).elt) :
    (cfg3.win w).block.Idx → Elt F (cfg3.win w).elt :=
  (cfg3.win w).fill (cfg3.grid.coords t) d (((cfg3.win w).blk t).view.read (Elt F) (V (Proc.devRef .tc (arrRef spec3 w))))

/-- What the output's staging buffer may hold after block `t`. -/
def ProbOut (t : Fin cfg3.N) (X : Vec F S256x8192 .f32) : Prop :=
  ∃ X1 X2 X3 X4, (∃ d, X1 = got3 V 0 t d) ∧ (∃ d, X2 = got3 V 1 t d) ∧ (∃ d, X3 = got3 V 2 t d) ∧ (∃ d, X4 = got3 V 3 t d)
    ∧ X = k3_pay1 X1 X2 X3 X4

/-- The proof data of this call, entered at the memory `V`. -/
def rd3 (c : Dev nD) : RDat τ (Elt F) Unit ℕ UU ℕ (pin (pcfgs (F := F)) a 3) c where
  A w := V (Proc.devRef .tc (arrRef (pin (pcfgs (F := F)) a 3).spec w))
  after := fun | 0 => fun _ Y X => X = Y | 1 => fun _ Y X => X = Y | 2 => fun _ Y X => X = Y | 3 => fun _ Y X => X = Y
               | 4 => fun t _ X => ProbOut V t X
  Φ _ := inv a 3 c
  q w := shareOf (pin (pcfgs (F := F)) a 3).spec w
  owed _ := 0

/-- The body keeps to its proof data at every point. -/
theorem body3 (c : Dev nD) : (rd3 a V c).BodyObligation (defs₀ (F := F)) noVar () Set.univ := by
  intro t Y hY
  have e0 := RDat.finds_in_eq_fetched (rd3 a V c) 0 rfl (fun _ _ _ => rfl) (fun _ _ _ h => h) t _ (hY 0)
  have e1 := (RDat.finds_of_fetch (rd3 a V c) (fetch3_1 t) _).mp (hY 1)
  have e2 := (RDat.finds_of_fetch (rd3 a V c) (fetch3_2 t) _).mp (hY 2)
  have e3 := RDat.finds_in_eq_fetched (rd3 a V c) 3 rfl (fun _ _ _ => rfl) (fun _ _ _ h => h) t _ (hY 3)
  have st : ProbOut V t (k3_pay1 (Y 0) (Y 1) (Y 2) (Y 3)) := ⟨_, _, _, _, e0 , e1 , e2 , e3, rfl⟩
  rw [bigSep_W3, bigSep_W3, show (rd3 a V c).Φ t.castSucc = (rd3 a V c).Φ t.succ from rfl,
    show (rd3 a V c).owesAt () t.castSucc = (rd3 a V c).owesAt () t.succ from rfl]
  iintro ⟨HΦ, HO, H0, H1, H2, H3, H4⟩
  iapply pass2_run c (grid3.coords t) (hstage3_0 ((cfg3.slots t 0).cast nbuf3_0)) (hstage3_1 ((cfg3.slots t 1).cast nbuf3_1)) (hstage3_2 ((cfg3.slots t 2).cast nbuf3_2)) (hstage3_3 ((cfg3.slots t 3).cast nbuf3_3)) (hstage3_4 ((cfg3.slots t 4).cast nbuf3_4))
    (Y 0) (Y 1) (Y 2) (Y 3) (Y 4)
  iframe H0 H1 H2 H3 H4
  iintro H0 H1 H2 H3 H4
  isplitl [HΦ]; · iexact HΦ
  isplitl [HO]; · iexact HO
  isplitl [H0]; · (iexists _; isplitr; · (ipureintro; rfl)); iexact H0
  isplitl [H1]; · (iexists _; isplitr; · (ipureintro; rfl)); iexact H1
  isplitl [H2]; · (iexists _; isplitr; · (ipureintro; rfl)); iexact H2
  isplitl [H3]; · (iexists _; isplitr; · (ipureintro; rfl)); iexact H3
  iexists _; isplitr; · ipureintro; exact st
  iexact H4

end Cert.Proof
end
-- ==== Proof.Run.lean ====
/-
  The whole run: the states @main passes between its steps, and what any of its executions ends in.
-/
module

public import proofs.«01_k».proof.Proof.Gather
public import proofs.«01_k».proof.Proof.Hidden
public import proofs.«01_k».proof.Proof.Pass2
public import proofs.«01_k».proof.Proof.Gen.KernelIdeal.Regions
public import Idealize.ShloMosaic.Lib.HostLoop.Lifted
public import Idealize.ShloMosaic.Lib.Pipeline.RegionsLoop
public import Idealize.ShloMosaic.Lib.Pipeline.RegionsForgetLinks

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F] [Named F]

local notation "𝕄" => MT nD τ sig Unit (Elt F) ℕ UU ℕ

/-- Every buffer as the run is launched. -/
abbrev launchV (m : (ℓ : Loc nD τ sig) → Buf (Elt F) ℓ) : Valuation τ sig (Elt F) := fun b => m (0, b)

/-- The gather's table as the launch memory makes it: the path, flattened. -/
def table (m : (ℓ : Loc nD τ sig) → Buf (Elt F) ℓ) : pre0.Contents (Elt F) :=
  fun k => StableHlo.after hostOps0 (launchV m) (Proc.devRef .tc (pre0.ref k))

/-- The tables of the four kernel calls; only the gather has one. -/
def tables (m : (ℓ : Loc nD τ sig) → Buf (Elt F) ℓ) (h : ok0 (table m)) : (p : Fin 4) → (pcfgs (F := F) p).Adm
  | 0 => ⟨table m, h⟩
  | 1 => cfg1.toPCfg_adm
  | 2 => cfg2.toPCfg_adm
  | 3 => cfg3.toPCfg_adm

variable (a : (p : Fin 4) → (pcfgs (F := F) p).Adm)

/-- The four kernel calls' proof data, entered at the memory `V`. -/
def rds (V : Valuation τ sig (Elt F)) : (p : Fin 4) → (c : Dev nD) → RDat τ (Elt F) Unit ℕ UU ℕ (pin (pcfgs (F := F)) a p) c
  | 0 => rd0 a V
  | 1 => rd1 a V
  | 2 => rd2 a V
  | 3 => rd3 a V

theorem reads0 (V : Valuation τ sig (Elt F)) (h : ∀ k, (a 0).1 k = V (Proc.devRef .tc (pre0.ref k))) : Reads a V (rds a V) 0 :=
  ⟨fun _ _ => rfl, h, fun _ _ => rfl, fun _ _ => rfl, fun _ => rfl, fun _ _ _ => rfl, body0 a V⟩

theorem reads1 (V : Valuation τ sig (Elt F)) : Reads a V (rds a V) 1 :=
  ⟨fun _ _ => rfl, fun k => k.elim0, fun _ _ => rfl, fun _ _ => rfl, fun _ => rfl, fun _ _ _ => rfl, body1 a V⟩

theorem reads2 (V : Valuation τ sig (Elt F)) : Reads a V (rds a V) 2 :=
  ⟨fun _ _ => rfl, fun k => k.elim0, fun _ _ => rfl, fun _ _ => rfl, fun _ => rfl, fun _ _ _ => rfl, body2 a V⟩

theorem reads3 (V : Valuation τ sig (Elt F)) : Reads a V (rds a V) 3 :=
  ⟨fun _ _ => rfl, fun k => k.elim0, fun _ _ => rfl, fun _ _ => rfl, fun _ => rfl, fun _ _ _ => rfl, body3 a V⟩

/-! ## The states between the steps -/

/-- What may follow a memory that `I` allows when the host operations `ops` run. -/
def Hosted (ops : List (HloOp τ sig (Elt F))) (I : Valuation τ sig (Elt F) → Prop) : Valuation τ sig (Elt F) → Prop :=
  fun V' => ∃ V, I V ∧ V' = StableHlo.after ops V

/-- What may follow a memory that `I` allows when kernel call `p` runs. -/
def Called (p : Fin 4) (I : Valuation τ sig (Elt F) → Prop) : Valuation τ sig (Elt F) → Prop :=
  fun V' => ∃ V, I V ∧ Leaves a (rds a V) p V V' 0

/-- The memory at launch. -/
def At0 (m : (ℓ : Loc nD τ sig) → Buf (Elt F) ℓ) : Valuation τ sig (Elt F) → Prop := fun V => V = launchV m

/-- Some memory that `I` allows, on core `c`. -/
abbrev someMem (I : Valuation τ sig (Elt F) → Prop) (c : Dev nD) : sProp (MT nD τ sig Unit (Elt F) ℕ UU ℕ) :=
  iprop(∃ V, ⌜I V⌝ ∗ memAt V c)

/-- One ticket for each kernel call. -/
def ticket (j : Fin 4) : Ticket (Ix := Unit) (Name := ℕ) (U := UU) (Lvl := ℕ) (nD := nD) (τ := τ) (pcfgs (F := F)) a where
  p := j
  pdats _ _ := { A := fun _ _ => Classical.arbitrary _, after := Dat.unnamed, Φ := fun _ => iprop(emp), q := fun _ => fullShare, owed := fun _ => 0 }
  EP := embAt j

/-! ## The steps as segments -/

/-- The run has no host loop. -/
abbrev noLoops : Fin 0 → Prog (TpuEff nD τ sig (Elt F) (HostLoop.Sig (Pipeline.Sig Λ₀ (Fin 4) fun p => (pcfgs (F := F) p).Adm) 0) .tc) PUnit :=
  fun l => l.elim0

/-- A stretch of host operations, from some memory that `I` allows. -/
def hostStep (ops : List (HloOp τ sig (Elt F))) (hS : ops.Forall fun op => op.bufs ⊆ StableHlo.tcRefs τ sig)
    (hf : ops.Forall fun op => op.fresh = ∅) (I : Valuation τ sig (Elt F) → Prop) :
    CSeg (Ix := Unit) (Name := ℕ) (U := UU) (Lvl := ℕ) (nD := nD) (τ := τ) (pcfgs (F := F)) a defs₀ noVar noLev lev0 noLoops (ticket a) :=
  CSeg.exSel (fun V _ => I V)
    (fun V => CSeg.ofOps (pcfgs (F := F)) a defs₀ noVar noLev lev0 noLoops (ticket a) (ucRefs τ sig) ops
      (fun op h => sub_ucRefs op (List.forall_iff_forall_mem.mp hS op h)) (List.forall_iff_forall_mem.mp hf) (fun _ => V) side)
    (StableHlo.seq ops) (fun _ => rfl) 0 (fun _ => le_rfl) ∅ (fun _ => rfl)

/-- Kernel call `p`, from some memory that `I` allows. -/
def callStep (p : Fin 4) (kit : PLaunchFacts₀ (nD := nD) (τ := τ) (pcfgs (F := F)) p) (I : Valuation τ sig (Elt F) → Prop)
    (h : ∀ V, I V → Reads a V (rds a V) p) :
    CSeg (Ix := Unit) (Name := ℕ) (U := UU) (Lvl := ℕ) (nD := nD) (τ := τ) (pcfgs (F := F)) a defs₀ noVar noLev lev0 noLoops (ticket a) :=
  CSeg.regionFR (pcfgs (F := F)) a () (cellOf_inj a) defs₀ noVar noLev lev0 noLoops (ticket a) p (fun x : {V // I V} => rds a x.1)
    (fun x => kernelSeg a x.1 (rds a x.1) p kit (h x.1 x.2)) (fun _ _ => True)

theorem host_pre (ops : List (HloOp τ sig (Elt F))) (hS hf) (I : Valuation τ sig (Elt F) → Prop) (c : Dev nD) :
    someMem I c ⊢ (hostStep a ops hS hf I).pre c := .rfl

theorem host_post (ops : List (HloOp τ sig (Elt F))) (hS hf) (I : Valuation τ sig (Elt F) → Prop) (c : Dev nD) :
    (hostStep a ops hS hf I).post c ⊢ someMem (Hosted ops I) c :=
  exSel_map (fun V => StableHlo.after ops V) (fun V h => ⟨V, h, rfl⟩) fun _ _ => .rfl

theorem call_pre (p : Fin 4) (kit) (I : Valuation τ sig (Elt F) → Prop) (h) (c : Dev nD) :
    someMem I c ⊢ (callStep a p kit I h).pre c := by
  refine exSel_elim fun V hV => ?_
  exact exSel_intro (sel := fun _ : {V // I V} => True) (A := fun x => memAt x.1 c) ⟨V, hV⟩ trivial

theorem call_post (p : Fin 4) (kit) (I : Valuation τ sig (Elt F) → Prop) (h) (c : Dev nD) :
    (callStep a p kit I h).post c ⊢ someMem (Called a p I) c := by
  refine exSel_elim (sel := fun _ : {V // I V} => True) fun x _ => ?_
  refine exSel_map (fun V => V) (fun V hl => ⟨x.1, x.2, ?_⟩) fun _ _ => .rfl
  rw [Subsingleton.elim (0 : Dev nD) c]; exact hl

/-! ## The run -/

variable (m : (ℓ : Loc nD τ sig) → Buf (Elt F) ℓ)

/-- The memory before the gather. -/
abbrev At1 : Valuation τ sig (Elt F) → Prop := Hosted hostOps0 (At0 m)
/-- The memory after the gather. -/
abbrev At2 : Valuation τ sig (Elt F) → Prop := Called a 0 (At1 m)
/-- The memory before the hidden layer. -/
abbrev At5 : Valuation τ sig (Elt F) → Prop := Hosted hostOps1_2 (Hosted hostOps1_1 (Hosted hostOps1 (At2 a m)))
/-- The memory after the hidden layer. -/
abbrev At6 : Valuation τ sig (Elt F) → Prop := Called a 1 (At5 a m)
/-- The memory before the first pass. -/
abbrev At7 : Valuation τ sig (Elt F) → Prop := Hosted hostOps2 (At6 a m)
/-- The memory after the first pass. -/
abbrev At8 : Valuation τ sig (Elt F) → Prop := Called a 2 (At7 a m)
/-- The memory after the second pass. -/
abbrev At9 : Valuation τ sig (Elt F) → Prop := Called a 3 (At8 a m)
/-- The memory at the end. -/
abbrev At10 : Valuation τ sig (Elt F) → Prop := Hosted hostOps4 (At9 a m)

variable (htbl : ∀ V, At1 m V → ∀ k, (a 0).1 k = V (Proc.devRef .tc (pre0.ref k)))

/-- @main, step by step. -/
def steps : List (CSeg (Ix := Unit) (Name := ℕ) (U := UU) (Lvl := ℕ) (nD := nD) (τ := τ) (pcfgs (F := F)) a defs₀ noVar noLev lev0 noLoops (ticket a)) :=
  [hostStep a hostOps0 hostOps0_sub hostOps0_fresh (At0 m),
   callStep a 0 launch₀0 (At1 m) (fun V h => reads0 a V (htbl V h)),
   hostStep a hostOps1 hostOps1_sub hostOps1_fresh (At2 a m),
   hostStep a hostOps1_1 hostOps1_1_sub hostOps1_1_fresh (Hosted hostOps1 (At2 a m)),
   hostStep a hostOps1_2 hostOps1_2_sub hostOps1_2_fresh (Hosted hostOps1_1 (Hosted hostOps1 (At2 a m))),
   callStep a 1 launch1.to₀ (At5 a m) (fun V _ => reads1 a V),
   hostStep a hostOps2 hostOps2_sub hostOps2_fresh (At6 a m),
   callStep a 2 launch2.to₀ (At7 a m) (fun V _ => reads2 a V),
   callStep a 3 launch3.to₀ (At8 a m) (fun V _ => reads3 a V),
   hostStep a hostOps4 hostOps4_sub hostOps4_fresh (At9 a m)]

/-- @main over the labels of no loop is the chain of its steps. -/
theorem main_steps (c : Dev nD) : HostLoop.liftProg (L := 0) (main (F := F) c) = CSeg.runL (steps a m htbl) := by
  rw [main_chain, HostLoop.liftProg_chain]
  simp only [List.map_cons, List.map_nil, HostLoop.liftProg_seq]
  rfl

/-- The run's ghost state: the pipeline library's, once for each kernel call. -/
def ghost₀ : UU := (fun _ => initOf (cells (pin (pcfgs (F := F)) a) (cellOf_inj a)) (launchToks (pin (pcfgs (F := F)) a) (cellOf_inj a)), 1)

include htbl in
set_option backward.isDefEq.respectTransparency.types false in
/-- Every execution of @main ends, in a memory that the ten steps allow, with every counter at zero. -/
theorem run_all (g : Dev nD → PrngReg) :
    θ_run (defs (F := F)) (onTc (τ := τ) (main (F := F))) ⟨m, fun _ => 0, g⟩
      (fun r => (∃ V, At10 a m V ∧ ∀ b ∈ ucRefs τ sig, r.2.mem (0, b) = V b) ∧ r.2.sem = fun _ => 0) := by
  refine HostLoop.θ_run_of_lift (fun l => l.elim0) defs main _ _ ?_
  refine θ_run_regions_loop_kit_sems (pcfgs (F := F)) a (cellOf_inj a) defs₀ noVar noLev lev0 noLoops (ticket a) m g
    (fun c => HostLoop.liftProg (L := 0) (main (F := F) c)) (steps a m htbl)
    (fun c Q => by rw [main_steps a m htbl c]) ?_ (O₀ := 0) (hL := fun _ _ => rfl) (G := fun _ => iprop(emp)) (u₀ := ghost₀ a) ?_
    (T₀ := someMem (At0 m)) (Tₙ := fun c => iprop(∃ V, ⌜At10 a m V⌝ ∗ StableHlo.held (c.tc : Thread nD τ) (ucRefs τ sig) V)) ?_ ?_
    (QY := fun _ s => ∃ V, At10 a m V ∧ ∀ b ∈ ucRefs τ sig, s.mem (0, b) = V b) ?_
    (hQ := fun _ h hz => ⟨h 0, funext fun g => hz g (.inr (regions_no_unscoped g.2))⟩)
  · unfold steps
    simp [hostStep, callStep]
  · unfold ghost₀
    iintro Hu
    ihave H := (ownU_pair _ _) $$ Hu
    icases H with ⟨HP, -⟩
    imodintro
    isplitl [HP]
    · iapply own_iprod; iexact HP
    iapply (show (BI.emp : sProp 𝕄) ⊢ bigSep Finset.univ (fun _ : Dev nD => (BI.emp : sProp 𝕄)) from by rw [BI.bigSep_emp_const])
    iempintro
  · exact ⟨host_pre a _ _ _ _, fun c => (host_post a _ _ _ _ c).trans (call_pre a _ _ _ _ c), fun c => (call_post a _ _ _ _ c).trans (host_pre a _ _ _ _ c),
      fun c => (host_post a _ _ _ _ c).trans (host_pre a _ _ _ _ c), fun c => (host_post a _ _ _ _ c).trans (host_pre a _ _ _ _ c),
      fun c => (host_post a _ _ _ _ c).trans (call_pre a _ _ _ _ c), fun c => (call_post a _ _ _ _ c).trans (host_pre a _ _ _ _ c),
      fun c => (host_post a _ _ _ _ c).trans (call_pre a _ _ _ _ c), fun c => (call_post a _ _ _ _ c).trans (call_pre a _ _ _ _ c),
      fun c => (call_post a _ _ _ _ c).trans (host_pre a _ _ _ _ c), fun c => (host_post a _ _ _ _ c).trans (by
        iintro ⟨%V, %hV, Hh, -, HO⟩
        isplitl [Hh]
        · iexists V; isplitr; · (ipureintro; exact hV)
          iexact Hh
        iexact HO)⟩
  · refine Pipeline.initEach noLev lev0 fun c => ?_
    rw [show unscopedBufs c (fun b => m ((c : Thread nD τ).loc b)) = StableHlo.held (c : Thread nD τ) (ucRefs τ sig) (launchV m) from by
      rw [Subsingleton.elim c (0 : Dev nD)]; exact unscopedBufs_held 0 (launchV m)]
    iintro ⟨⟨Hh, -, HO, -, Hp, -⟩, -⟩
    imodintro
    iexists (launchV m)
    isplitr; · (ipureintro; rfl)
    isplitl [Hh]; · iexact Hh
    isplitl [Hp]; · (iexists _; iexact Hp)
    iexists ∅; iexact HO
  · intro c s'
    unfold StableHlo.held
    iintro ⟨⟨%V, %hV, Hh⟩, HSI⟩
    ihave Hr := (pointsTo_read_all (ucRefs τ sig) (fun b => ((c : Thread nD τ).1, b)) V s') $$ [Hh HSI]
    · isplitl [Hh] <;> iassumption
    icases Hr with ⟨%h, HSI⟩
    imodintro
    isplitr
    · ipureintro
      refine ⟨V, hV, fun b hb => ?_⟩
      rw [Subsingleton.elim (0 : Dev nD) c]; exact h b hb
    iexact HSI

end Cert.Proof

end
-- ==== Proof.Table.lean ====
/-
  The gather's table: the path, flattened, names a row of the embedding at every place when the path is in range.
-/
module

public import proofs.«01_k».proof.Proof.Run
public import Idealize.ShloMosaic.Lib.StableHlo.ReadAt

@[expose] public section

noncomputable section

namespace Cert.Proof

open Idealize.ShloMosaic
open Idealize.ShloMosaic.TcCoe
open Idealize.ShloMosaic.Pipeline
open Cert.KernelIdeal Cert.KernelIdeal.Gen

variable {F : FTy → Type} [FloatOps F] [Named F]

variable (m : (ℓ : Loc nD τ sig) → Buf (Elt F) ℓ)

/-- The path as launched. -/
def pathOf : IVec S16x16 32 := m (0, Proc.devRef .tc main_arg0)

/-- Every path word names a row of the embedding. -/
def PathOk : Prop := ∀ q : S16x16.Idx, (pathOf m q).toNat < 100000

/-- Word `16 b + n` of the table is path word `(b, n)`. -/
theorem table_val (j : S256.Idx) (q : S16x16.Idx) (h : (j 0).val = 16 * (q 0).val + (q 1).val) :
    (table m 0 : IVec S256 32) j = pathOf m q := by
  show StableHlo.after hostOps0 (launchV m) (Proc.devRef .tc main_v0) j = _
  have e1 : (q 1).val < 16 := (q 1).isLt
  after_reads_at
  show pathOf m _ = pathOf m q
  congr 1
  funext b
  fin_cases b
  · exact Fin.ext (show (j 0).val / 16 = (q 0).val by omega)
  · exact Fin.ext (show (j 0).val % 16 = (q 1).val by omega)

/-- Where the index maps read the table. -/
theorem off_val (i : grid0.Coords) (k : Fin 16) : k0_off1 i (BitVec.ofNat 32 k.val) 0 = 16 * (i 0).val + k.val := by
  have h0 : (i 0).val < 16 := (i 0).isLt
  have hk := k.isLt
  show (BitVec.ofNat 32 (i 0).val * 16#32 + BitVec.ofNat 32 k.val).toNat = _
  simp [BitVec.toNat_add, BitVec.toNat_mul]
  omega

/-- The row that place `k` of block `i` names is path word `(i, k)`. -/
theorem rowNo_val (i : grid0.Coords) (k : Fin 16) (q : S16x16.Idx) (h0 : (q 0).val = (i 0).val) (h1 : (q 1).val = k.val) :
    rowNo (table m) i k = (pathOf m q).toNat := by
  unfold rowNo
  congr 1
  refine table_val m _ q ?_
  show k0_off1 i (BitVec.ofNat 32 k.val) 0 + 0 = _
  rw [off_val, h0, h1, Nat.add_zero]

/-- A block at row `r` of the embedding lies inside it. -/
theorem block_ok (f : Fin 3 → ℕ) (h0 : f 0 < 100000) (h1 : f 1 = 0) (h2 : f 2 = 0) :
    ∃ h : (∀ a, (f a + 1) * S1x1x128.size a ≤ S100000x1x128.size a), EltTy.bits .f32 = 32 ∨ (Rect.block (s := S100000x1x128) S1x1x128.size f h).WholeWords (EltTy.packing .f32) := by
  refine ⟨fun b => ?_, Or.inl rfl⟩
  fin_cases b
  · show (f 0 + 1) * 1 ≤ 100000; omega
  · show (f 1 + 1) * 1 ≤ 1; omega
  · show (f 2 + 1) * 128 ≤ 128; omega

/-- A path in range makes a table that the gather admits. -/
theorem table_ok (h : PathOk m) : ok0 (table m) := by
  have hr : ∀ (i : grid0.Coords) (k : Fin 16), rowNo (table m) i k < 100000 := fun i k => by
    rw [rowNo_val m i k (fun | 0 => i 0 | 1 => k) rfl rfl]; exact h _
  have hb := fun (i : grid0.Coords) (k : Fin 16) => block_ok ![rowNo (table m) i k, 0, 0] (hr i k) rfl rfl
  exact ⟨fun i => hb i 0, fun i => hb i 1, fun i => hb i 2, fun i => hb i 3, fun i => hb i 4, fun i => hb i 5, fun i => hb i 6, fun i => hb i 7,
    fun i => hb i 8, fun i => hb i 9, fun i => hb i 10, fun i => hb i 11, fun i => hb i 12, fun i => hb i 13, fun i => hb i 14, fun i => hb i 15⟩

end Cert.Proof

end
-- ==== Proof.Keep.lean ====
/-
  What the steps of @main leave alone.
-/
module

public import proofs.«01_k».proof.Proof.Table

@[expose] public section

noncomputable section

namespace Cert.Proof

open Idealize.ShloMosaic
open Idealize.ShloMosaic.TcCoe
open Idealize.SL.Sem
open Idealize.ShloMosaic.Pipeline
open Cert.KernelIdeal Cert.KernelIdeal.Gen

variable {F : FTy → Type} [FloatOps F] [Named F]

variable (a : (p : Fin 4) → (pcfgs (F := F) p).Adm) (m : (ℓ : Loc nD τ sig) → Buf (Elt F) ℓ)

/-- A kernel call changes no array but its output windows' arrays. -/
theorem Leaves.keep {p : Fin 4} {V V' : Valuation τ sig (Elt F)} (h : Leaves a (rds a V) p V V' 0) (hA : ∀ w, (rds a V p 0).A w = V (Proc.devRef .tc (arrRef (pin (pcfgs (F := F)) a p).spec w)))
    (outs : List (Ref sig .tc)) (ho : ∀ w, ((pin (pcfgs (F := F)) a p).win w).isOut = true → arrRef (pin (pcfgs (F := F)) a p).spec w ∈ outs)
    (b : Ref sig .tc) (hb : b ∉ outs) : V' (Proc.devRef .tc b) = V (Proc.devRef .tc b) := by
  by_cases hw : ∃ w, arrRef (pin (pcfgs (F := F)) a p).spec w = b
  · obtain ⟨w, rfl⟩ := hw
    have hin : ((pin (pcfgs (F := F)) a p).win w).isOut = false := by
      rcases hc : ((pin (pcfgs (F := F)) a p).win w).isOut with _ | _
      · rfl
      · exact absurd (ho w hc) hb
    have := h.1 w
    rw [(rds a V p 0).ArrAt_in w hin] at this
    exact this.trans (hA w)
  · exact h.2 b fun w e => hw ⟨w, e⟩

/-- No window of an input is an output. -/
theorem not_out {P : Prop} (h : false = true) : P := (Bool.false_ne_true h).elim

/-- The gather changes its output's array only. -/
theorem keep0 {V V' : Valuation τ sig (Elt F)} (h : Leaves a (rds a V) 0 V V' 0) (b : Ref sig .tc) (hb : b ∉ [main_v2]) :
    V' (Proc.devRef .tc b) = V (Proc.devRef .tc b) :=
  Leaves.keep a h (fun _ => rfl) [main_v2] (fun | 0 => not_out | 1 => not_out | 2 => not_out | 3 => not_out | 4 => not_out | 5 => not_out | 6 => not_out | 7 => not_out | 8 => not_out | 9 => not_out | 10 => not_out | 11 => not_out | 12 => not_out | 13 => not_out | 14 => not_out | 15 => not_out | 16 => fun _ => List.mem_singleton.2 rfl | ⟨_ + 17, h⟩ => absurd h (Nat.not_lt.2 (Nat.le_add_left _ _))) b hb

/-- The hidden layer changes its output's array only. -/
theorem keep1 {V V' : Valuation τ sig (Elt F)} (h : Leaves a (rds a V) 1 V V' 0) (b : Ref sig .tc) (hb : b ∉ [main_v19]) :
    V' (Proc.devRef .tc b) = V (Proc.devRef .tc b) :=
  Leaves.keep a h (fun _ => rfl) [main_v19] (fun | 0 => not_out | 1 => not_out | 2 => not_out | 3 => not_out | 4 => not_out | 5 => not_out | 6 => not_out | 7 => not_out | 8 => fun _ => List.mem_singleton.2 rfl) b hb

/-- The first pass changes its three outputs' arrays only. -/
theorem keep2 {V V' : Valuation τ sig (Elt F)} (h : Leaves a (rds a V) 2 V V' 0) (b : Ref sig .tc) (hb : b ∉ [main_v21_0, main_v21_1, main_v21_2]) :
    V' (Proc.devRef .tc b) = V (Proc.devRef .tc b) :=
  Leaves.keep a h (fun _ => rfl) [main_v21_0, main_v21_1, main_v21_2] (fun | 0 => not_out | 1 => not_out | 2 => not_out | 3 => not_out | 4 => fun _ => List.mem_cons_self | 5 => fun _ => List.mem_cons_of_mem _ List.mem_cons_self | 6 => fun _ => List.mem_cons_of_mem _ (List.mem_cons_of_mem _ List.mem_cons_self)) b hb

/-- The second pass changes its output's array only. -/
theorem keep3 {V V' : Valuation τ sig (Elt F)} (h : Leaves a (rds a V) 3 V V' 0) (b : Ref sig .tc) (hb : b ∉ [main_v22]) :
    V' (Proc.devRef .tc b) = V (Proc.devRef .tc b) :=
  Leaves.keep a h (fun _ => rfl) [main_v22] (fun | 0 => not_out | 1 => not_out | 2 => not_out | 3 => not_out | 4 => fun _ => List.mem_singleton.2 rfl) b hb

/-- Host operations leave what they do not write. -/
theorem Hosted.keep {ops : List (HloOp τ sig (Elt F))} {W : List (Ref sig .tc)}
    (hw : ops.Forall fun op => op.writes ⊆ (W.map (Proc.devRef (τ := τ) .tc)).toFinset) (V : Valuation τ sig (Elt F)) (b : Ref sig .tc) (hb : b ∉ W) :
    StableHlo.after ops V (Proc.devRef .tc b) = V (Proc.devRef .tc b) :=
  StableHlo.after_of_writes_sub ops V hw hb

/-- The buffers that @main writes before the hidden layer. -/
abbrev early : List (Ref sig .tc) := hostOps0_W ++ [main_v2] ++ hostOps1_W ++ hostOps1_1_W ++ hostOps1_2_W

/-- Before the hidden layer a buffer that nothing has written is as launched. -/
theorem At5.keep {V : Valuation τ sig (Elt F)} (h : At5 a m V) (b : Ref sig .tc) (hb : b ∉ early) :
    V (Proc.devRef .tc b) = m (0, Proc.devRef .tc b) := by
  simp only [early, List.mem_append, not_or] at hb
  obtain ⟨V4, ⟨V3, ⟨V2, ⟨V1, ⟨V0, rfl, rfl⟩, h2⟩, rfl⟩, rfl⟩, rfl⟩ := h
  rw [Hosted.keep hostOps1_2_writes _ b hb.2, Hosted.keep hostOps1_1_writes _ b hb.1.2, Hosted.keep hostOps1_writes _ b hb.1.1.2,
    keep0 a h2 b hb.1.1.1.2, Hosted.keep hostOps0_writes _ b hb.1.1.1.1]

/-- At the end a buffer that nothing has written is as launched. -/
theorem At10.keep {V : Valuation τ sig (Elt F)} (h : At10 a m V) (b : Ref sig .tc)
    (hb : b ∉ early ++ [main_v19] ++ hostOps2_W ++ [main_v21_0, main_v21_1, main_v21_2] ++ [main_v22] ++ hostOps4_W) :
    V (Proc.devRef .tc b) = m (0, Proc.devRef .tc b) := by
  rw [List.mem_append, List.mem_append, List.mem_append, List.mem_append, List.mem_append, not_or, not_or, not_or, not_or, not_or] at hb
  obtain ⟨V9, ⟨V8, ⟨V7, ⟨V6, ⟨V5, h5, h6⟩, rfl⟩, h8⟩, h9⟩, rfl⟩ := h
  rw [Hosted.keep hostOps4_writes _ b hb.2, keep3 a h9 b hb.1.2, keep2 a h8 b hb.1.1.2, Hosted.keep hostOps2_writes _ b hb.1.1.1.2,
    keep1 a h6 b hb.1.1.1.1.2]
  exact At5.keep a m h5 b hb.1.1.1.1.1

/-- Every execution from a path in range ends with each argument as launched, in a memory the steps allow, every counter at zero. -/
theorem run_keeps (g : Dev nD → PrngReg) (hp : PathOk m) :
    θ_run (defs (F := F)) (onTc (τ := τ) (main (F := F))) ⟨m, fun _ => 0, g⟩
      (fun r => (∃ V, At10 (tables m (table_ok m hp)) m V ∧ ∀ b ∈ ucRefs τ sig, r.2.mem (0, b) = V b) ∧ r.2.sem = fun _ => 0) :=
  run_all (tables m (table_ok m hp)) m (by rintro V ⟨_, rfl, rfl⟩ k; rfl) g

end Cert.Proof

end
-- ==== Proof.RefRun.lean ====
/-
  The reference as lists of host operations, one list for each stage, and its run: every buffer ends as the lists leave it.
-/
module

public import proofs.«01_k».proof.Defs
public import proofs.«01_k».proof.Proof.Gen.ReferenceIdeal
public import Idealize.ShloMosaic.Lib.StableHlo.RunHlo

@[expose] public section

noncomputable section

namespace Cert.Proof.Ref

open Idealize.ShloMosaic
open Idealize.ShloMosaic.TcCoe
open Idealize.SL.Sem
open Cert.ReferenceIdeal Cert.ReferenceIdeal.Gen
open StableHlo (after)

variable {F : FTy → Type} [FloatOps F]

/-- The operations of the reference for the row numbers. -/
def opsIdx : List (HloOp τ sig (Elt F)) :=
  [ StableHlo.TRef.nullary main_call0.c (constantI S_ 32 0#32)
  , StableHlo.TRef.unary main_call0.c main_call0.v0 (broadcastInDim S16x16 ![] bcast_S_S16x16)
  , StableHlo.TRef.binary (.of main_arg0) main_call0.v0 main_call0.v1 (cmpi .slt)
  , StableHlo.TRef.nullary main_call0.c_0 (constantI S_ 32 100000#32)
  , StableHlo.TRef.unary main_call0.c_0 main_call0.v2 (broadcastInDim S16x16 ![] bcast_S_S16x16)
  , StableHlo.TRef.binary (.of main_arg0) main_call0.v2 main_call0.v3 addi
  , StableHlo.TRef.ternary main_call0.v1 main_call0.v3 (.of main_arg0) main_call0.call0.v0 select
  , StableHlo.TRef.unary main_call0.call0.v0 main_call0.v5 (broadcastInDim S16x16x1 ![0, 1] bcast_S16x16_S16x16x1_0_1) ]

/-- The operations of the reference for whether each row number is in range. -/
def opsMask : List (HloOp τ sig (Elt F)) :=
  [ StableHlo.TRef.nullary main_call0.c_1 (constantI S1 32 99999#32)
  , StableHlo.TRef.nullary main_call0.c_2 (constantI S_ 32 0#32)
  , StableHlo.TRef.unary main_call0.c_2 main_call0.v6 (broadcastInDim S16x16x1 ![] bcast_S_S16x16x1)
  , StableHlo.TRef.binary main_call0.v5 main_call0.v6 main_call0.v7 (cmpi .sge)
  , StableHlo.TRef.unary main_call0.c_1 main_call0.v8 (broadcastInDim S1x1x1 ![2] bcast_S1_S1x1x1_2)
  , StableHlo.TRef.unary main_call0.v8 main_call0.v9 (broadcastInDim S16x16x1 ![0, 1, 2] bcast_S1x1x1_S16x16x1_0_1_2)
  , StableHlo.TRef.binary main_call0.v5 main_call0.v9 main_call0.v10 (cmpi .sle)
  , StableHlo.TRef.binary main_call0.v7 main_call0.v10 main_call0.v11 andi
  , StableHlo.TRef.nullary main_call0.c_3 (constantI S_ 1 1#1)
  , StableHlo.TRef.binary main_call0.v11 main_call0.c_3 main_call0.v12 (fun x v => Host.reduce IntOp.andi x v reducesTo_S16x16x1_S16x16_d2 h_S_) ]

/-- The operations of the reference for the rows. -/
def opsRow : List (HloOp τ sig (Elt F)) :=
  [ StableHlo.TRef.binary (.of main_arg3) main_call0.v5 main_call0.v13 (fun x i => Host.gather gather_S100000x128_S16x16x1_S16x16x128_2_0_n_n_0_2_1128 x i)
  , StableHlo.TRef.unary main_call0.v12 main_call0.v14 (broadcastInDim S16x16x128 ![0, 1] bcast_S16x16_S16x16x128_0_1)
  , StableHlo.TRef.nullary main_call0.cst (constant S_ .f32 0x7FC00000#32)
  , StableHlo.TRef.unary main_call0.cst main_call0.v15 (broadcastInDim S16x16x128 ![] bcast_S_S16x16x128)
  , StableHlo.TRef.ternary main_call0.v14 main_call0.v13 main_call0.v15 main_call0.v16 select ]

/-- The operations of the reference for the embedding rows that the path names. -/
def opsTake : List (HloOp τ sig (Elt F)) :=
  opsIdx ++ opsMask ++ opsRow

/-- The operations of the reference for the first layer and the mean of each row of the batch. -/
def opsIn : List (HloOp τ sig (Elt F)) :=
  [ StableHlo.unary main_arg4 main_v1 ((transpose S128x128 [1, 0] · transposes_S128x128_S128x128_1_0) : (⟨S128x128, .f32⟩ : BufTy).Contents (Elt F) → (⟨S128x128, .f32⟩ : BufTy).Contents (Elt F))
  , StableHlo.binary main_v0 main_v1 main_v2 ((fun l r => Host.dotGeneral dot_S16x16x128_S128x128_S16x16x128_2_0_01_1_n_n none l r) : (⟨S16x16x128, .f32⟩ : BufTy).Contents (Elt F) → (⟨S128x128, .f32⟩ : BufTy).Contents (Elt F) → (⟨S16x16x128, .f32⟩ : BufTy).Contents (Elt F))
  , StableHlo.unary main_arg5 main_v3 (broadcastInDim S1x1x128 ![2] bcast_S128_S1x1x128_2 : (⟨S128, .f32⟩ : BufTy).Contents (Elt F) → (⟨S1x1x128, .f32⟩ : BufTy).Contents (Elt F))
  , StableHlo.unary main_v3 main_v4 (broadcastInDim S16x16x128 ![0, 1, 2] bcast_S1x1x128_S16x16x128_0_1_2 : (⟨S1x1x128, .f32⟩ : BufTy).Contents (Elt F) → (⟨S16x16x128, .f32⟩ : BufTy).Contents (Elt F))
  , StableHlo.binary main_v2 main_v4 main_v5 (addf : (⟨S16x16x128, .f32⟩ : BufTy).Contents (Elt F) → (⟨S16x16x128, .f32⟩ : BufTy).Contents (Elt F) → (⟨S16x16x128, .f32⟩ : BufTy).Contents (Elt F))
  , StableHlo.nullary main_cst (constant S_ .f32 0x00000000#32)
  , StableHlo.binary main_v5 main_cst main_v6 ((fun x v => Host.reduceAdd x v reducesTo_S16x16x128_S16x128_d1 h_S_) : (⟨S16x16x128, .f32⟩ : BufTy).Contents (Elt F) → (⟨S_, .f32⟩ : BufTy).Contents (Elt F) → (⟨S16x128, .f32⟩ : BufTy).Contents (Elt F))
  , StableHlo.unary main_v6 main_v7 (broadcastInDim S16x1x128 ![0, 2] bcast_S16x128_S16x1x128_0_2 : (⟨S16x128, .f32⟩ : BufTy).Contents (Elt F) → (⟨S16x1x128, .f32⟩ : BufTy).Contents (Elt F))
  , StableHlo.nullary main_cst_0 (constant S_ .f32 0x41800000#32)
  , StableHlo.unary main_cst_0 main_v8 (broadcastInDim S16x1x128 ![] bcast_S_S16x1x128 : (⟨S_, .f32⟩ : BufTy).Contents (Elt F) → (⟨S16x1x128, .f32⟩ : BufTy).Contents (Elt F))
  , StableHlo.binary main_v7 main_v8 main_v9 (Host.divf : (⟨S16x1x128, .f32⟩ : BufTy).Contents (Elt F) → (⟨S16x1x128, .f32⟩ : BufTy).Contents (Elt F) → (⟨S16x1x128, .f32⟩ : BufTy).Contents (Elt F))
  , StableHlo.unary main_v9 main_v10 (broadcastInDim S16x16x128 ![0, 1, 2] bcast_S16x1x128_S16x16x128_0_1_2 : (⟨S16x1x128, .f32⟩ : BufTy).Contents (Elt F) → (⟨S16x16x128, .f32⟩ : BufTy).Contents (Elt F))
  , StableHlo.binary main_v5 main_v10 main_v11 (addf : (⟨S16x16x128, .f32⟩ : BufTy).Contents (Elt F) → (⟨S16x16x128, .f32⟩ : BufTy).Contents (Elt F) → (⟨S16x16x128, .f32⟩ : BufTy).Contents (Elt F)) ]

/-- The operations of the reference for the states, the targets and the hidden layer. -/
def opsHid : List (HloOp τ sig (Elt F)) :=
  [ StableHlo.unary main_arg1 main_v12 (broadcastInDim S16x1x128 ![0, 2] bcast_S16x128_S16x1x128_0_2 : (⟨S16x128, .f32⟩ : BufTy).Contents (Elt F) → (⟨S16x1x128, .f32⟩ : BufTy).Contents (Elt F))
  , StableHlo.unary main_v12 main_v13 (broadcastInDim S16x16x128 ![0, 1, 2] bcast_S16x1x128_S16x16x128_0_1_2 : (⟨S16x1x128, .f32⟩ : BufTy).Contents (Elt F) → (⟨S16x16x128, .f32⟩ : BufTy).Contents (Elt F))
  , StableHlo.binary main_v11 main_v13 main_v14 (addf : (⟨S16x16x128, .f32⟩ : BufTy).Contents (Elt F) → (⟨S16x16x128, .f32⟩ : BufTy).Contents (Elt F) → (⟨S16x16x128, .f32⟩ : BufTy).Contents (Elt F))
  , StableHlo.unary main_arg2 main_v15 (broadcastInDim S16x16x128 ![0, 1, 2] bcast_S16x1x128_S16x16x128_0_1_2 : (⟨S16x1x128, .f32⟩ : BufTy).Contents (Elt F) → (⟨S16x16x128, .f32⟩ : BufTy).Contents (Elt F))
  , StableHlo.binary main_v14 main_v15 main_v16 (addf : (⟨S16x16x128, .f32⟩ : BufTy).Contents (Elt F) → (⟨S16x16x128, .f32⟩ : BufTy).Contents (Elt F) → (⟨S16x16x128, .f32⟩ : BufTy).Contents (Elt F))
  , StableHlo.unary main_arg6 main_v17 ((transpose S128x256 [1, 0] · transposes_S256x128_S128x256_1_0) : (⟨S256x128, .f32⟩ : BufTy).Contents (Elt F) → (⟨S128x256, .f32⟩ : BufTy).Contents (Elt F))
  , StableHlo.binary main_v16 main_v17 main_v18 ((fun l r => Host.dotGeneral dot_S16x16x128_S128x256_S16x16x256_2_0_01_1_n_n none l r) : (⟨S16x16x128, .f32⟩ : BufTy).Contents (Elt F) → (⟨S128x256, .f32⟩ : BufTy).Contents (Elt F) → (⟨S16x16x256, .f32⟩ : BufTy).Contents (Elt F))
  , StableHlo.unary main_arg7 main_v19 (broadcastInDim S1x1x256 ![2] bcast_S256_S1x1x256_2 : (⟨S256, .f32⟩ : BufTy).Contents (Elt F) → (⟨S1x1x256, .f32⟩ : BufTy).Contents (Elt F))
  , StableHlo.unary main_v19 main_v20 (broadcastInDim S16x16x256 ![0, 1, 2] bcast_S1x1x256_S16x16x256_0_1_2 : (⟨S1x1x256, .f32⟩ : BufTy).Contents (Elt F) → (⟨S16x16x256, .f32⟩ : BufTy).Contents (Elt F))
  , StableHlo.binary main_v18 main_v20 main_v21 (addf : (⟨S16x16x256, .f32⟩ : BufTy).Contents (Elt F) → (⟨S16x16x256, .f32⟩ : BufTy).Contents (Elt F) → (⟨S16x16x256, .f32⟩ : BufTy).Contents (Elt F))
  , StableHlo.nullary main_cst_1 (constant S_ .f32 0x00000000#32)
  , StableHlo.unary main_cst_1 main_v22 (broadcastInDim S16x16x256 ![] bcast_S_S16x16x256 : (⟨S_, .f32⟩ : BufTy).Contents (Elt F) → (⟨S16x16x256, .f32⟩ : BufTy).Contents (Elt F))
  , StableHlo.binary main_v21 main_v22 main_v23 (maximumf : (⟨S16x16x256, .f32⟩ : BufTy).Contents (Elt F) → (⟨S16x16x256, .f32⟩ : BufTy).Contents (Elt F) → (⟨S16x16x256, .f32⟩ : BufTy).Contents (Elt F)) ]

/-- The operations of the reference for the logits. -/
def opsLog : List (HloOp τ sig (Elt F)) :=
  [ StableHlo.unary main_arg8 main_v24 ((transpose S256x100000 [1, 0] · transposes_S100000x256_S256x100000_1_0) : (⟨S100000x256, .f32⟩ : BufTy).Contents (Elt F) → (⟨S256x100000, .f32⟩ : BufTy).Contents (Elt F))
  , StableHlo.binary main_v23 main_v24 main_v25 ((fun l r => Host.dotGeneral dot_S16x16x256_S256x100000_S16x16x100000_2_0_01_1_n_n none l r) : (⟨S16x16x256, .f32⟩ : BufTy).Contents (Elt F) → (⟨S256x100000, .f32⟩ : BufTy).Contents (Elt F) → (⟨S16x16x100000, .f32⟩ : BufTy).Contents (Elt F))
  , StableHlo.unary main_arg9 main_v26 (broadcastInDim S1x1x100000 ![2] bcast_S100000_S1x1x100000_2 : (⟨S100000, .f32⟩ : BufTy).Contents (Elt F) → (⟨S1x1x100000, .f32⟩ : BufTy).Contents (Elt F))
  , StableHlo.unary main_v26 main_v27 (broadcastInDim S16x16x100000 ![0, 1, 2] bcast_S1x1x100000_S16x16x100000_0_1_2 : (⟨S1x1x100000, .f32⟩ : BufTy).Contents (Elt F) → (⟨S16x16x100000, .f32⟩ : BufTy).Contents (Elt F))
  , StableHlo.binary main_v25 main_v27 main_v28 (addf : (⟨S16x16x100000, .f32⟩ : BufTy).Contents (Elt F) → (⟨S16x16x100000, .f32⟩ : BufTy).Contents (Elt F) → (⟨S16x16x100000, .f32⟩ : BufTy).Contents (Elt F)) ]

/-- The operations of the reference for each row's greatest logit. -/
def opsMax : List (HloOp τ sig (Elt F)) :=
  [ StableHlo.nullary main_cst_2 (constant S_ .f32 0xFF800000#32)
  , StableHlo.binary main_v28 main_cst_2 main_v29 ((fun x v => Host.reduce FloatOps.maximumf x v reducesTo_S16x16x100000_S16x16_d2 h_S_) : (⟨S16x16x100000, .f32⟩ : BufTy).Contents (Elt F) → (⟨S_, .f32⟩ : BufTy).Contents (Elt F) → (⟨S16x16, .f32⟩ : BufTy).Contents (Elt F)) ]

/-- The operations of the reference for the softmax from there. -/
def opsQuot : List (HloOp τ sig (Elt F)) :=
  [ StableHlo.nullary main_cst_3 (constant S_ .f32 0xFF800000#32)
  , StableHlo.unary main_cst_3 main_v30 (broadcastInDim S16x16 ![] bcast_S_S16x16 : (⟨S_, .f32⟩ : BufTy).Contents (Elt F) → (⟨S16x16, .f32⟩ : BufTy).Contents (Elt F))
  , StableHlo.binary main_v30 main_v29 main_v31 (maximumf : (⟨S16x16, .f32⟩ : BufTy).Contents (Elt F) → (⟨S16x16, .f32⟩ : BufTy).Contents (Elt F) → (⟨S16x16, .f32⟩ : BufTy).Contents (Elt F))
  , StableHlo.unary main_v31 main_v32 (broadcastInDim S16x16x1 ![0, 1] bcast_S16x16_S16x16x1_0_1 : (⟨S16x16, .f32⟩ : BufTy).Contents (Elt F) → (⟨S16x16x1, .f32⟩ : BufTy).Contents (Elt F))
  , StableHlo.unary main_v32 main_v33 (broadcastInDim S16x16x100000 ![0, 1, 2] bcast_S16x16x1_S16x16x100000_0_1_2 : (⟨S16x16x1, .f32⟩ : BufTy).Contents (Elt F) → (⟨S16x16x100000, .f32⟩ : BufTy).Contents (Elt F))
  , StableHlo.binary main_v28 main_v33 main_v34 (subf : (⟨S16x16x100000, .f32⟩ : BufTy).Contents (Elt F) → (⟨S16x16x100000, .f32⟩ : BufTy).Contents (Elt F) → (⟨S16x16x100000, .f32⟩ : BufTy).Contents (Elt F))
  , StableHlo.unary main_v34 main_v35 (Host.exp : (⟨S16x16x100000, .f32⟩ : BufTy).Contents (Elt F) → (⟨S16x16x100000, .f32⟩ : BufTy).Contents (Elt F))
  , StableHlo.nullary main_cst_4 (constant S_ .f32 0x00000000#32)
  , StableHlo.binary main_v35 main_cst_4 main_v36 ((fun x v => Host.reduceAdd x v reducesTo_S16x16x100000_S16x16_d2 h_S_) : (⟨S16x16x100000, .f32⟩ : BufTy).Contents (Elt F) → (⟨S_, .f32⟩ : BufTy).Contents (Elt F) → (⟨S16x16, .f32⟩ : BufTy).Contents (Elt F))
  , StableHlo.unary main_v36 main_v37 (broadcastInDim S16x16x1 ![0, 1] bcast_S16x16_S16x16x1_0_1 : (⟨S16x16, .f32⟩ : BufTy).Contents (Elt F) → (⟨S16x16x1, .f32⟩ : BufTy).Contents (Elt F))
  , StableHlo.unary main_v37 main_v38 (broadcastInDim S16x16x100000 ![0, 1, 2] bcast_S16x16x1_S16x16x100000_0_1_2 : (⟨S16x16x1, .f32⟩ : BufTy).Contents (Elt F) → (⟨S16x16x100000, .f32⟩ : BufTy).Contents (Elt F))
  , StableHlo.binary main_v35 main_v38 main_v39 (Host.divf : (⟨S16x16x100000, .f32⟩ : BufTy).Contents (Elt F) → (⟨S16x16x100000, .f32⟩ : BufTy).Contents (Elt F) → (⟨S16x16x100000, .f32⟩ : BufTy).Contents (Elt F)) ]

/-- The operations of the reference for the softmax of the logits. -/
def opsSoft : List (HloOp τ sig (Elt F)) :=
  opsMax ++ opsQuot

/-- The operations of the reference for the scores. -/
def opsScore : List (HloOp τ sig (Elt F)) :=
  [ StableHlo.reshape main_v28 main_v40 (rfl : (.f32 : EltTy) = .f32) shapeCasts_S16x16x100000_S256x100000
  , StableHlo.binary main_arg10 main_v40 main_v41 (addf : (⟨S256x100000, .f32⟩ : BufTy).Contents (Elt F) → (⟨S256x100000, .f32⟩ : BufTy).Contents (Elt F) → (⟨S256x100000, .f32⟩ : BufTy).Contents (Elt F)) ]

/-- The operations of the reference for the first greatest score of each row. -/
def opsFirst : List (HloOp τ sig (Elt F)) :=
  [ StableHlo.TRef.nullary main_call1.v0 (iotaInDim S256x100000 32 1)
  , StableHlo.TRef.nullary main_call1.cst (constant S_ .f32 0xFF800000#32)
  , StableHlo.TRef.nullary main_call1.c (constantI S_ 32 0#32)
  , StableHlo.TRef.quaternary (.of main_v41) main_call1.v0 main_call1.cst main_call1.c main_call1.v1_0 (fun x y u v j => (Host.argReduce reducer_argmax_f32_i32 x y u v reducesTo_S256x100000_S256_d1 h_S_ j).1)
  , StableHlo.TRef.quaternary (.of main_v41) main_call1.v0 main_call1.cst main_call1.c main_call1.v1_1 (fun x y u v j => (Host.argReduce reducer_argmax_f32_i32 x y u v reducesTo_S256x100000_S256_d1 h_S_ j).2)
  , StableHlo.reshape main_v42 main_v43 (rfl : (.i32 : EltTy) = .i32) shapeCasts_S256_S16x16 ]

/-- The operations of the reference for the index of the greatest of the logits with the Gumbel draws added. -/
def opsArg : List (HloOp τ sig (Elt F)) :=
  opsScore ++ opsFirst

/-- The reference is those operations in turn. -/
theorem main_seq (d : Dev nD) :
    StableHlo.IsSeq (main (F := F) d) (opsTake ++ opsIn ++ opsHid ++ opsLog ++ opsSoft ++ opsArg) := rfl

/-- The buffers that `opsTake` writes. -/
abbrev opsTakeW : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

/-- Each operation of `opsTake` writes one of them. -/
theorem opsTake_writes : (opsTake : List (HloOp τ sig (Elt F))).Forall fun op => op.writes ⊆ (opsTakeW.map (Proc.devRef (τ := τ) .tc)).toFinset :=
  StableHlo.forall_writes_sub_of_map rfl

/-- The buffers that `opsIn` writes. -/
abbrev opsInW : List (Ref sig .tc) :=
  [main_v1, main_v2, main_v3, main_v4, main_v5, main_cst, main_v6, main_v7, main_cst_0, main_v8, main_v9, main_v10, main_v11]

/-- Each operation of `opsIn` writes one of them. -/
theorem opsIn_writes : (opsIn : List (HloOp τ sig (Elt F))).Forall fun op => op.writes ⊆ (opsInW.map (Proc.devRef (τ := τ) .tc)).toFinset :=
  StableHlo.forall_writes_sub_of_map rfl

/-- The buffers that `opsHid` writes. -/
abbrev opsHidW : List (Ref sig .tc) :=
  [main_v12, main_v13, main_v14, main_v15, main_v16, main_v17, main_v18, main_v19, main_v20, main_v21, main_cst_1, main_v22, main_v23]

/-- Each operation of `opsHid` writes one of them. -/
theorem opsHid_writes : (opsHid : List (HloOp τ sig (Elt F))).Forall fun op => op.writes ⊆ (opsHidW.map (Proc.devRef (τ := τ) .tc)).toFinset :=
  StableHlo.forall_writes_sub_of_map rfl

/-- The buffers that `opsLog` writes. -/
abbrev opsLogW : List (Ref sig .tc) :=
  [main_v24, main_v25, main_v26, main_v27, main_v28]

/-- Each operation of `opsLog` writes one of them. -/
theorem opsLog_writes : (opsLog : List (HloOp τ sig (Elt F))).Forall fun op => op.writes ⊆ (opsLogW.map (Proc.devRef (τ := τ) .tc)).toFinset :=
  StableHlo.forall_writes_sub_of_map rfl

/-- The buffers that `opsSoft` writes. -/
abbrev opsSoftW : List (Ref sig .tc) :=
  [main_cst_2, main_v29, main_cst_3, main_v30, main_v31, main_v32, main_v33, main_v34, main_v35, main_cst_4, main_v36, main_v37, main_v38, main_v39]

/-- Each operation of `opsSoft` writes one of them. -/
theorem opsSoft_writes : (opsSoft : List (HloOp τ sig (Elt F))).Forall fun op => op.writes ⊆ (opsSoftW.map (Proc.devRef (τ := τ) .tc)).toFinset :=
  StableHlo.forall_writes_sub_of_map rfl

/-- The buffers that `opsArg` writes. -/
abbrev opsArgW : List (Ref sig .tc) :=
  [main_v40, main_v41, main_call1_v0, main_call1_cst, main_call1_c, main_call1_v1_0, main_v42, main_v43]

/-- Each operation of `opsArg` writes one of them. -/
theorem opsArg_writes : (opsArg : List (HloOp τ sig (Elt F))).Forall fun op => op.writes ⊆ (opsArgW.map (Proc.devRef (τ := τ) .tc)).toFinset :=
  StableHlo.forall_writes_sub_of_map rfl

variable (m : (ℓ : Loc nD τ sig) → Buf (Elt F) ℓ)

/-- The memory after each stage. -/
abbrev R0 (d : Dev nD) : Valuation τ sig (Elt F) := StableHlo.launchContents m d
@[inherit_doc R0] abbrev R1 (d : Dev nD) : Valuation τ sig (Elt F) := after opsTake (R0 m d)
@[inherit_doc R0] abbrev R2 (d : Dev nD) : Valuation τ sig (Elt F) := after opsIn (R1 m d)
@[inherit_doc R0] abbrev R3 (d : Dev nD) : Valuation τ sig (Elt F) := after opsHid (R2 m d)
@[inherit_doc R0] abbrev R4 (d : Dev nD) : Valuation τ sig (Elt F) := after opsLog (R3 m d)
@[inherit_doc R0] abbrev R5 (d : Dev nD) : Valuation τ sig (Elt F) := after opsSoft (R4 m d)
@[inherit_doc R0] abbrev R6 (d : Dev nD) : Valuation τ sig (Elt F) := after opsArg (R5 m d)

/-- Two lists of operations in turn. -/
theorem after_append (l₁ l₂ : List (HloOp τ sig (Elt F))) (V : Valuation τ sig (Elt F)) : after (l₁ ++ l₂) V = after l₂ (after l₁ V) := by
  induction l₁ generalizing V with
  | nil => rfl
  | cons op l ih => exact ih _

/-- Every execution of the reference ends with each buffer as the stages leave it. -/
theorem run (ρ : Dev nD → PrngReg) :
    θ_run (defs (F := F)) (onTc (τ := τ) (main (F := F))) ⟨m, fun _ => 0, ρ⟩
      fun r => ∀ (d : Dev nD) (b : Ref sig .tc), r.2.mem ((d.tc : Thread nD τ).loc b) = R6 m d (Proc.devRef .tc b) := by
  refine θ_run_mono (StableHlo.run_hlo defs main main_seq (by decide) (by decide) ?_ ?_ m ρ) fun r h d b => ?_
  · simp [opsTake, opsIn, opsHid, opsLog, opsSoft, opsMax, opsQuot, opsArg, opsIdx, opsMask, opsRow, opsScore, opsFirst, opsIdx, opsMask, opsRow, opsScore, opsFirst]
  · intro op h
    simp only [opsTake, opsIn, opsHid, opsLog, opsSoft, opsMax, opsQuot, opsArg, opsIdx, opsMask, opsRow, opsScore, opsFirst, List.cons_append, List.nil_append] at h
    repeat (cases h with | head => rfl | tail _ h => ?_)
    exact nomatch h
  · rw [h d b]; simp only [after_append]

/-- A buffer that no operation writes ends as launched. -/
theorem R6_keep (d : Dev nD) (b : Ref sig .tc)
    (h0 : b ∉ opsTakeW) (h1 : b ∉ opsInW) (h2 : b ∉ opsHidW) (h3 : b ∉ opsLogW) (h4 : b ∉ opsSoftW) (h5 : b ∉ opsArgW) :
    R6 m d (Proc.devRef .tc b) = m ((d.tc : Thread nD τ).loc b) := by
  unfold R6 R5 R4 R3 R2 R1
  rw [StableHlo.after_of_writes_sub _ _ opsArg_writes h5, StableHlo.after_of_writes_sub _ _ opsSoft_writes h4,
    StableHlo.after_of_writes_sub _ _ opsLog_writes h3, StableHlo.after_of_writes_sub _ _ opsHid_writes h2,
    StableHlo.after_of_writes_sub _ _ opsIn_writes h1, StableHlo.after_of_writes_sub _ _ opsTake_writes h0]

end Cert.Proof.Ref

end
-- ==== Proof.Frames.lean ====
/-
  The frames: each program runs to the end, leaves its arguments as they were and every counter at zero.
-/
module

public import proofs.«01_k».proof.Defs
public import proofs.«01_k».proof.Proof.Gen.Pre_path_in_range
public import proofs.«01_k».proof.Proof.Same
public import proofs.«01_k».proof.Proof.Keep
public import proofs.«01_k».proof.Proof.RefRun
public import Idealize.ShloMosaic.Adequacy

@[expose] public section

noncomputable section

namespace Cert.Proof

open Idealize.ShloMosaic
open Idealize.ShloMosaic.TcCoe
open Idealize.SL.Sem
open Idealize.ShloMosaic.Pipeline
open Cert.KernelIdeal Cert.KernelIdeal.Gen

/-- A word that is at least 0 and below 100000 as a signed number is below 100000 as a natural number. -/
theorem word_in_range (w : BitVec 32) (h : IntOp.andi (IntOp.cmpi .sge w 0#32) (IntOp.cmpi .slt w 100000#32) = 1#1) :
    w.toNat < 100000 := by
  have h1 : (0#32).sle w = true := by
    by_contra hc
    simp [IntOp.andi, IntOp.cmpi, Bool.eq_false_of_not_eq_true hc] at h
  have h2 : w.slt 100000#32 = true := by
    by_contra hc
    simp [IntOp.andi, IntOp.cmpi, Bool.eq_false_of_not_eq_true hc] at h
  rw [BitVec.sle_iff_toInt_le] at h1
  rw [BitVec.slt_iff_toInt_lt] at h2
  have e := BitVec.toInt_eq_toNat_cond w
  simp at h1 h2
  split at e <;> omega

/-- The machine's floats: every path word of an admitted launch names a row of the embedding. -/
theorem path_ok_bits (m : (ℓ : Loc Cert.Kernel.nD Cert.Kernel.τ Cert.Kernel.sig) → Buf (Elt Bits) ℓ) (h : Pre_Kernel m) :
    PathOk (F := Bits) m :=
  fun q => word_in_range _ (congrFun (h 0) q)

/-- The extended reals: the same. -/
theorem path_ok_ideal (m : (ℓ : Loc nD τ sig) → Buf (Elt Ideal) ℓ) (h : Pre_KernelIdeal m) : PathOk (F := Ideal) m :=
  fun q => word_in_range _ (congrFun (h 0) q)

section
variable {F : FTy → Type} [FloatOps F] [Named F]

/-- The arguments of the kernel. -/
abbrev args : List (Ref sig .tc) :=
  [main_arg0, main_arg1, main_arg2, main_arg3, main_arg4, main_arg5, main_arg6, main_arg7, main_arg8, main_arg9, main_arg10]

/-- No step of the kernel writes an argument. -/
theorem args_apart : ∀ b ∈ args,
    b ∉ early ++ [main_v19] ++ hostOps2_W ++ [main_v21_0, main_v21_1, main_v21_2] ++ [main_v22] ++ hostOps4_W := by
  decide +kernel

/-- No argument is of a scope. -/
theorem args_open : ∀ b ∈ args, b.isScoped = false := by decide

/-- From a path in range the kernel ends with each argument as launched and every counter at zero. -/
theorem run_args (m : (ℓ : Loc nD τ sig) → Buf (Elt F) ℓ) (g : Dev nD → PrngReg) (hp : PathOk m) :
    θ_run (defs (F := F)) (onTc (τ := τ) (main (F := F))) ⟨m, fun _ => 0, g⟩
      (fun r => (∀ (c : Dev nD), ∀ b ∈ args, r.2.mem ((c.tc : Thread nD τ).loc b) = m ((c.tc : Thread nD τ).loc b)) ∧ r.2.sem = fun _ => 0) := by
  refine θ_run_mono (run_keeps m g hp) fun r ⟨⟨V, hV, hm⟩, hs⟩ => ⟨fun c b hb => ?_, hs⟩
  obtain rfl : c = 0 := Subsingleton.elim c 0
  refine (hm _ (Finset.mem_filter.mpr ⟨StableHlo.devRef_mem_tcRefs b, ?_⟩)).trans (At10.keep _ m hV b (args_apart b hb))
  have := args_open b hb
  simpa using this

end

/-- The extended reals: frame of the kernel. -/
theorem frame_pi : quiescent_KernelIdeal := fun m g h =>
  θ_run_mono (run_args m g (path_ok_ideal m h)) fun _ ⟨hr, hs⟩ => ⟨fun c => by
    refine ⟨?_, ?_, ?_, ?_, ?_, ?_, ?_, ?_, ?_, ?_, ?_⟩ <;> exact hr c _ (by simp [args]), hs⟩

/-- The machine's floats: frame of the kernel. -/
theorem frame_p : quiescent_Kernel := fun m g h => by
  refine (keeps_same m g _).mpr ?_
  letI : Named Bits := bitsNamed
  exact θ_run_mono (run_args (F := Bits) m g (path_ok_bits m h)) fun _ ⟨hr, hs⟩ => ⟨fun c =>
    ⟨hr c main_arg0 (by decide), hr c main_arg1 (by decide), hr c main_arg2 (by decide), hr c main_arg3 (by decide),
     hr c main_arg4 (by decide), hr c main_arg5 (by decide), hr c main_arg6 (by decide), hr c main_arg7 (by decide),
     hr c main_arg8 (by decide), hr c main_arg9 (by decide), hr c main_arg10 (by decide)⟩, hs⟩

section
open Cert.ReferenceIdeal

/-- The arguments of the reference. -/
abbrev refArgs : List (Ref Cert.ReferenceIdeal.sig .tc) :=
  [Cert.ReferenceIdeal.main_arg0, Cert.ReferenceIdeal.main_arg1, Cert.ReferenceIdeal.main_arg2, Cert.ReferenceIdeal.main_arg3,
   Cert.ReferenceIdeal.main_arg4, Cert.ReferenceIdeal.main_arg5, Cert.ReferenceIdeal.main_arg6, Cert.ReferenceIdeal.main_arg7,
   Cert.ReferenceIdeal.main_arg8, Cert.ReferenceIdeal.main_arg9, Cert.ReferenceIdeal.main_arg10]

/-- No operation of the reference writes an argument. -/
theorem refArgs_apart : ∀ b ∈ refArgs,
    b ∉ Ref.opsTakeW ∧ b ∉ Ref.opsInW ∧ b ∉ Ref.opsHidW ∧ b ∉ Ref.opsLogW ∧ b ∉ Ref.opsSoftW ∧ b ∉ Ref.opsArgW := by
  decide +kernel

/-- The reference ends with each argument as launched. -/
theorem ref_keep (m : (ℓ : Loc Cert.ReferenceIdeal.nD Cert.ReferenceIdeal.τ Cert.ReferenceIdeal.sig) → Buf (Elt Ideal) ℓ)
    (d : Dev Cert.ReferenceIdeal.nD) (b : Ref Cert.ReferenceIdeal.sig .tc) (hb : b ∈ refArgs) :
    Ref.R6 m d (Proc.devRef .tc b) = m ((d.tc : Thread Cert.ReferenceIdeal.nD Cert.ReferenceIdeal.τ).loc b) := by
  obtain ⟨h0, h1, h2, h3, h4, h5⟩ := refArgs_apart b hb
  exact Ref.R6_keep m d b h0 h1 h2 h3 h4 h5

/-- The extended reals: frame of the reference. -/
theorem frame_ri : quiescent_ReferenceIdeal := fun m g _ =>
  θ_run_mono (Ref.run m g) fun r h => ⟨fun c => by
    refine ⟨?_, ?_, ?_, ?_, ?_, ?_, ?_, ?_, ?_, ?_, ?_⟩ <;> exact (h c _).trans (ref_keep m c _ (by simp [refArgs])),
    sem_eq_zero_of_no_sems (by decide) r.2⟩

end

/-- The literal that stands for minus infinity in each of the two places is named there. -/
theorem names : preserves_Kernel_KernelIdeal :=
  ⟨IdealRules.named_const.statement Cert.KernelIdeal.κ "mask" .f32 0xF149F2CA#32 _ rfl,
   IdealRules.named_const.statement Cert.KernelIdeal.κ "start" .f32 0xFF61B1E6#32 _ rfl⟩

end Cert.Proof

end
-- ==== Proof.PreFacts.lean ====
/-
  The side conditions of the value claim's precondition: a single number may be broadcast to each argument's shape.
-/
module

public import proofs.«01_k».proof.Pre_in_range_and_finite

@[expose] public section

noncomputable section

namespace Cert.Proof

/-- A single number fills any of the shapes the precondition compares. -/
instance preFacts : Cert.Pre_in_range_and_finite.Facts := by
  constructor <;> decide

end Cert.Proof

end
-- ==== Proof.FramesFinite.lean ====
/-
  The frames under the value claim's precondition.
-/
module

public import proofs.«01_k».proof.Proof.PreFacts
public import proofs.«01_k».proof.Proof.Frames

@[expose] public section

noncomputable section

namespace Cert.Proof

open Idealize.ShloMosaic
open Idealize.ShloMosaic.TcCoe
open Idealize.SL.Sem
open Cert.KernelIdeal Cert.KernelIdeal.Gen

/-- Every path word of a launch that the value claim admits names a row of the embedding. -/
theorem path_ok_finite (m : (ℓ : Loc nD τ sig) → Buf (Elt Ideal) ℓ) (h : Pre_KernelIdeal_in_range_and_finite m) :
    PathOk (F := Ideal) m :=
  fun q => word_in_range _ (congrFun (h 0).1 q)

/-- The extended reals: frame of the kernel under the value claim's precondition. -/
theorem frame_pi_finite : quiescent_KernelIdeal_pre_in_range_and_finite := fun m g h =>
  θ_run_mono (run_args m g (path_ok_finite m h)) fun _ ⟨hr, hs⟩ => ⟨fun c => by
    refine ⟨?_, ?_, ?_, ?_, ?_, ?_, ?_, ?_, ?_, ?_, ?_⟩ <;> exact hr c _ (by simp [args]), hs⟩

/-- The extended reals: frame of the reference under the value claim's precondition. -/
theorem frame_ri_finite : quiescent_ReferenceIdeal_pre_in_range_and_finite := fun m g _ => frame_ri m g trivial

end Cert.Proof

end
-- ==== Proof.Spec.lean ====
/-
  The mathematics of the network over the real numbers, apart from any program.

  A batch of 16 walks of 16 nodes each. A node's embedding row goes through a linear layer; the mean over the walk, the
  walk's state and target are added; a hidden layer with a rectifier and a linear layer give one logit for each of the 100000
  vocabulary words. The results are the softmax of the logits, and the first word whose logit plus Gumbel draw is greatest.
-/
module

public import Idealize.ShloMosaic.Lib.Pointwise

@[expose] public section

noncomputable section

namespace Cert.Proof

open Idealize.ShloMosaic

/-- The arguments as numbers. -/
structure Net where
  path : Fin 16 → Fin 16 → Fin 100000
  states : Fin 16 → Fin 128 → ℝ
  targets : Fin 16 → Fin 128 → ℝ
  embed : Fin 100000 → Fin 128 → ℝ
  w : Fin 128 → Fin 128 → ℝ
  bias : Fin 128 → ℝ
  w1 : Fin 256 → Fin 128 → ℝ
  b1 : Fin 256 → ℝ
  w2 : Fin 100000 → Fin 256 → ℝ
  b2 : Fin 100000 → ℝ
  gumbel : Fin 256 → Fin 100000 → EReal

namespace Net

variable (N : Net)

/-- The first layer at node `n` of walk `b`. -/
def inp (b n : Fin 16) (h : Fin 128) : ℝ := ∑ d, N.embed (N.path b n) d * N.w h d + N.bias h

/-- The first layer with the walk's mean added. -/
def mix (b n : Fin 16) (h : Fin 128) : ℝ := N.inp b n h + (∑ k, N.inp b k h) / 16

/-- What enters the hidden layer. -/
def st (b n : Fin 16) (h : Fin 128) : ℝ := N.mix b n h + N.states b h + N.targets b h

/-- The hidden layer. -/
def hid (b n : Fin 16) (f : Fin 256) : ℝ := max (∑ h, N.st b n h * N.w1 f h + N.b1 f) 0

/-- The logits. -/
def logit (b n : Fin 16) (v : Fin 100000) : ℝ := ∑ f, N.hid b n f * N.w2 v f + N.b2 v

/-- The softmax's denominator. -/
def total (b n : Fin 16) : ℝ := ∑ v, Real.exp (N.logit b n v)

/-- The softmax. -/
def prob (b n : Fin 16) (v : Fin 100000) : ℝ := Real.exp (N.logit b n v) / N.total b n

/-- Node `n` of walk `b` as one of 256 rows. -/
def row (b n : Fin 16) : Fin 256 := ⟨b.val * 16 + n.val, by omega⟩

/-- The walk of row `r`. -/
def walk (r : Fin 256) : Fin 16 := ⟨r.val / 16, by omega⟩

/-- The node of row `r`. -/
def node (r : Fin 256) : Fin 16 := ⟨r.val % 16, by omega⟩

theorem walk_row (b n : Fin 16) : walk (row b n) = b := Fin.ext (by simp only [walk, row]; omega)
theorem node_row (b n : Fin 16) : node (row b n) = n := Fin.ext (by simp only [node, row]; omega)

/-- The score of word `v` at row `r`: its Gumbel draw plus its logit; of a number past the vocabulary, minus infinity. -/
def score (r : Fin 256) (v : ℕ) : EReal :=
  if h : v < 100000 then N.gumbel r ⟨v, h⟩ + (N.logit (walk r) (node r) ⟨v, h⟩ : ℝ) else ⊥

theorem total_pos (b n : Fin 16) : 0 < N.total b n :=
  Finset.sum_pos (fun _ _ => Real.exp_pos _) ⟨⟨0, by norm_num⟩, Finset.mem_univ _⟩

/-- The arrays `a0 … a10` hold the numbers of `N`. -/
structure Holds (a0 : (⟨2, ![16, 16]⟩ : Shape).Idx → BitVec 32) (a1 : (⟨2, ![16, 128]⟩ : Shape).Idx → EReal)
    (a2 : (⟨3, ![16, 1, 128]⟩ : Shape).Idx → EReal) (a3 : (⟨2, ![100000, 128]⟩ : Shape).Idx → EReal)
    (a4 : (⟨2, ![128, 128]⟩ : Shape).Idx → EReal) (a5 : (⟨1, ![128]⟩ : Shape).Idx → EReal)
    (a6 : (⟨2, ![256, 128]⟩ : Shape).Idx → EReal) (a7 : (⟨1, ![256]⟩ : Shape).Idx → EReal)
    (a8 : (⟨2, ![100000, 256]⟩ : Shape).Idx → EReal) (a9 : (⟨1, ![100000]⟩ : Shape).Idx → EReal)
    (a10 : (⟨2, ![256, 100000]⟩ : Shape).Idx → EReal) : Prop where
  path : ∀ b n, a0 (ix2 b n) = BitVec.ofNat 32 (N.path b n).val
  states : ∀ b h, a1 (ix2 b h) = (N.states b h : ℝ)
  targets : ∀ b h, a2 (ix3 b 0 h) = (N.targets b h : ℝ)
  embed : ∀ i d, a3 (ix2 i d) = (N.embed i d : ℝ)
  w : ∀ h d, a4 (ix2 h d) = (N.w h d : ℝ)
  bias : ∀ h, a5 (ix1 h) = (N.bias h : ℝ)
  w1 : ∀ f h, a6 (ix2 f h) = (N.w1 f h : ℝ)
  b1 : ∀ f, a7 (ix1 f) = (N.b1 f : ℝ)
  w2 : ∀ v f, a8 (ix2 v f) = (N.w2 v f : ℝ)
  b2 : ∀ v, a9 (ix1 v) = (N.b2 v : ℝ)
  gumbel : ∀ r v, a10 (ix2 r v) = N.gumbel r v

end Net

/-- A finite sum of real numbers is the same among the extended reals. -/
theorem sum_coe {ι : Type} (s : Finset ι) (f : ι → ℝ) : ∑ x ∈ s, ((f x : ℝ) : EReal) = ((∑ x ∈ s, f x : ℝ) : EReal) := by
  induction s using Finset.cons_induction with
  | empty => simp
  | cons a s h ih => rw [Finset.sum_cons, Finset.sum_cons, ih, EReal.coe_add]

/-- The maximum of two real numbers is the same among the extended reals. -/
theorem max_coe (x y : ℝ) : max (x : EReal) (y : EReal) = ((max x y : ℝ) : EReal) :=
  (EReal.coe_strictMono.monotone.map_max).symm

/-- The word 0x41800000 is the number 16. -/
theorem sixteen : Ideal.ofBits .f32 0x41800000#32 = ((16 : ℝ) : EReal) := by
  simp [Ideal.ofBits, Ideal.ieee, -EReal.coe_mul]; norm_num

/-- The word 0x3D800000 is the number 1/16. -/
theorem sixteenth : Ideal.ofBits .f32 0x3D800000#32 = ((1 / 16 : ℝ) : EReal) := by
  simp [Ideal.ofBits, Ideal.ieee, -EReal.coe_mul]; norm_num

/-- The word 0xFF800000 is minus infinity. -/
theorem minusInf : Ideal.ofBits .f32 0xFF800000#32 = (⊥ : EReal) := by
  simp [Ideal.ofBits, Ideal.ieee]

/-- The quotient of two real numbers, the second positive, is their real quotient. -/
theorem div_real (x y : ℝ) (hy : 0 < y) : Ideal.div (x : EReal) (y : EReal) = ((x / y : ℝ) : EReal) := by
  rw [Ideal.div_coe hy.ne', ← EReal.coe_mul, mul_one_div]

/-! ## Softmax -/

/-- The maximum of finitely many real numbers, folded from minus infinity over a set with an element, is a real number. -/
theorem fold_max_real {ι : Type} (s : Finset ι) (hs : s.Nonempty) (f : ι → ℝ) :
    ∃ M : ℝ, Finset.fold max (⊥ : EReal) (fun x => ((f x : ℝ) : EReal)) s = (M : EReal) := by
  induction hs using Finset.Nonempty.cons_induction with
  | singleton a => exact ⟨f a, by simp⟩
  | cons a s h hs ih =>
      obtain ⟨M, hM⟩ := ih
      exact ⟨max (f a) M, by rw [Finset.fold_cons, hM, max_coe]⟩

/-- Subtracting the same number from every logit does not change the softmax. -/
theorem softmax_shift {ι : Type} (s : Finset ι) (f : ι → ℝ) (M : ℝ) (x : ι) :
    Real.exp (f x - M) / ∑ y ∈ s, Real.exp (f y - M) = Real.exp (f x) / ∑ y ∈ s, Real.exp (f y) := by
  simp only [Real.exp_sub, ← Finset.sum_div]
  rw [div_div_div_cancel_right₀ (Real.exp_pos M).ne']

/-- The softmax of real logits as the reference takes it: a number subtracted, exponentials, the quotient by their sum. -/
theorem softmax_real {ι : Type} [Fintype ι] (f : ι → ℝ) (z : ι → EReal) (hz : ∀ x, z x = ((f x : ℝ) : EReal)) (v : ι) (y : EReal)
    (hy : y = ((f v : ℝ) : EReal)) (M : ℝ) :
    Ideal.div (Ideal.exp (y - (M : EReal))) (∑ x, Ideal.exp (z x - (M : EReal)))
      = ((Real.exp (f v) / ∑ x, Real.exp (f x) : ℝ) : EReal) := by
  obtain rfl : z = fun x => ((f x : ℝ) : EReal) := funext hz
  subst hy
  simp only [← EReal.coe_sub, Ideal.exp_coe, sum_coe]
  rw [div_real _ _ (Finset.sum_pos (fun _ _ => Real.exp_pos _) ⟨v, Finset.mem_univ _⟩), softmax_shift]

/-! ## The first greatest score -/

/-- Among the scores `z 0 … z (n - 1)` the greatest is `b` and `w` is the first number with that score; if there is none above
    minus infinity, `b` is minus infinity and `w` is 0. -/
structure Best (z : ℕ → EReal) (n : ℕ) (b : EReal) (w : ℕ) : Prop where
  mem : (b = ⊥ ∧ w = 0) ∨ (w < n ∧ z w = b)
  le : ∀ v < n, z v < b ∨ (z v = b ∧ w ≤ v)
  bot : ⊥ < b ∨ w = 0

/-- Those two are determined. -/
theorem Best.unique {z : ℕ → EReal} {n : ℕ} {b b' : EReal} {w w' : ℕ} (h : Best z n b w) (h' : Best z n b' w') : b = b' ∧ w = w' := by
  have key : ∀ {b b' : EReal} {w w' : ℕ}, Best z n b w → Best z n b' w' → b ≤ b' := by
    intro b b' w w' h h'
    rcases h.mem with ⟨h0, _⟩ | ⟨hw, hz⟩
    · rw [h0]; exact bot_le
    · rcases h'.le w hw with h1 | ⟨h1, _⟩
      · exact hz ▸ h1.le
      · exact (hz.symm.trans h1).le
  have hb : b = b' := le_antisymm (key h h') (key h' h)
  have key2 : ∀ {b : EReal} {w w' : ℕ}, Best z n b w → Best z n b w' → w ≤ w' := by
    intro b w w' h h'
    rcases h'.mem with ⟨h0, h1⟩ | ⟨hw, hz⟩
    · rcases h.bot with h2 | h2
      · exact absurd h0 h2.ne'
      · omega
    · rcases h.le w' hw with h1 | ⟨_, h1⟩
      · exact absurd hz h1.ne
      · exact h1
  subst hb
  exact ⟨rfl, le_antisymm (key2 h h') (key2 h' h)⟩

/-- Numbers with score minus infinity may be added at the end. -/
theorem Best.extend {z : ℕ → EReal} {n k : ℕ} {b : EReal} {w : ℕ} (h : Best z n b w) (hz : ∀ v, n ≤ v → z v = ⊥) : Best z (n + k) b w := by
  refine ⟨h.mem.imp_right fun ⟨h1, h2⟩ => ⟨by omega, h2⟩, fun v hv => ?_, h.bot⟩
  by_cases hn : v < n
  · exact h.le v hn
  · rw [hz v (by omega)]
    rcases h.bot with h1 | h1
    · exact .inl h1
    · rcases eq_or_ne b ⊥ with h2 | h2
      · exact .inr ⟨h2.symm, by omega⟩
      · exact .inl (bot_lt_iff_ne_bot.mpr h2)

/-- Nothing has been seen. -/
theorem Best.nil (z : ℕ → EReal) : Best z 0 ⊥ 0 := ⟨.inl ⟨rfl, rfl⟩, fun _ h => absurd h (Nat.not_lt_zero _), .inr rfl⟩

/-- A further block of `k` scores, of which `m` is the greatest and `i` the first number with it: the block's pair replaces the
    pair so far exactly if `m` is above it. -/
theorem Best.step {z : ℕ → EReal} {n k : ℕ} {b m : EReal} {w i : ℕ} (h : Best z n b w)
    (hm : ∀ j < k, z (n + j) ≤ m) (hi : b < m → n ≤ i ∧ i < n + k ∧ z i = m ∧ ∀ v, n ≤ v → v < n + k → z v = m → i ≤ v) :
    Best z (n + k) (if b < m then m else b) (if b < m then i else w) := by
  by_cases hb : b < m
  · obtain ⟨h1, h2, h3, h4⟩ := hi hb
    rw [if_pos hb, if_pos hb]
    refine ⟨.inr ⟨h2, h3⟩, fun v hv => ?_, .inl (lt_of_le_of_lt bot_le hb)⟩
    by_cases hn : v < n
    · rcases h.le v hn with h5 | ⟨h5, _⟩
      · exact .inl (h5.trans hb)
      · exact .inl (h5 ▸ hb)
    · have h5 := hm (v - n) (by omega)
      rw [show n + (v - n) = v by omega] at h5
      rcases h5.lt_or_eq with h6 | h6
      · exact .inl h6
      · exact .inr ⟨h6, h4 v (by omega) hv h6⟩
  · rw [if_neg hb, if_neg hb]
    refine ⟨h.mem.imp_right fun ⟨h1, h2⟩ => ⟨by omega, h2⟩, fun v hv => ?_, h.bot⟩
    by_cases hn : v < n
    · exact h.le v hn
    · have h5 := hm (v - n) (by omega)
      rw [show n + (v - n) = v by omega] at h5
      rcases (h5.trans (not_lt.mp hb)).lt_or_eq with h6 | h6
      · exact .inl h6
      · refine .inr ⟨h6, ?_⟩
        rcases h.mem with ⟨_, h7⟩ | ⟨h7, _⟩ <;> omega

end Cert.Proof

end
-- ==== Proof.ValHost.lean ====
/-
  What the host stretches around the kernel calls compute, at an index.
-/
module

public import proofs.«01_k».proof.Proof.Spec
public import proofs.«01_k».proof.Proof.Gen.KernelIdeal.Launch

@[expose] public section

set_option maxRecDepth 16384

noncomputable section

namespace Cert.Proof

open Idealize.ShloMosaic
open Idealize.ShloMosaic.TcCoe
open Cert.KernelIdeal Cert.KernelIdeal.Gen
open StableHlo (after)

variable (V : Valuation τ sig (Elt Ideal))

/-- The embedding's rows as one-row blocks. -/
theorem blocks_val (i : Fin 100000) (d : Fin 128) : (after hostOps0 V (Proc.devRef .tc main_v1) : S100000x1x128.Idx → EReal) (ix3 i 0 d)
    = (V (Proc.devRef .tc main_arg3) : S100000x128.Idx → EReal) (ix2 i d) := by
  after_results_simp
  pointwise []

/-- The gathered rows, one for each row of the batch. -/
theorem rows_val (r : Fin 256) (d : Fin 128) : (after hostOps1 V (Proc.devRef .tc main_v3) : S256x128.Idx → EReal) (ix2 r d)
    = (V (Proc.devRef .tc main_v2) : S16x16x128.Idx → EReal) (ix3 (Net.walk r) (Net.node r) d) := by
  after_results_simp
  pointwise []
  rfl

/-- The identity matrix. -/
theorem eye_val (p q : Fin 16) : (after hostOps1 V (Proc.devRef .tc main_v9) : S16x16.Idx → EReal) (ix2 p q)
    = (((if p = q then 1 else 0 : ℝ)) : EReal) := by
  after_results_simp
  pointwise []
  have e : ∀ p q : Fin 16, IntOp.cmpi .eq (IntOp.addi (BitVec.ofNat 32 p.val) 0#32) (BitVec.ofNat 32 q.val) = if p = q then 1#1 else 0#1 := by decide
  rw [e]
  by_cases h : p = q
  · rw [if_pos h, if_pos h]; show (((1#1 : BitVec 1).toNat : ℝ) : EReal) = _; norm_num
  · rw [if_neg h, if_neg h]; show (((0#1 : BitVec 1).toNat : ℝ) : EReal) = _; norm_num

/-- The matrix of sixteenths. -/
theorem sixteenths_val (p q : Fin 16) : (after hostOps1 V (Proc.devRef .tc main_v10) : S16x16.Idx → EReal) (ix2 p q) = ((1 / 16 : ℝ) : EReal) := by
  rw [← sixteenth]
  after_results_simp
  pointwise []

/-- Their Kronecker product. -/
theorem kron_val (e f : Fin 16 → Fin 16 → ℝ) (he : ∀ p q, (V (Proc.devRef .tc main_v9) : S16x16.Idx → EReal) (ix2 p q) = ((e p q : ℝ) : EReal))
    (hf : ∀ p q, (V (Proc.devRef .tc main_v10) : S16x16.Idx → EReal) (ix2 p q) = ((f p q : ℝ) : EReal)) (r s : Fin 256) :
    (after hostOps1_1 V (Proc.devRef .tc main_v11) : S256x256.Idx → EReal) (ix2 r s)
      = ((e (Net.walk r) (Net.walk s) * f (Net.node r) (Net.node s) : ℝ) : EReal) := by
  after_results_simp
  simp only [StableHlo.TRef.ofBuf_toBuf]
  simp only [StableHlo.TRef.ofBuf, StableHlo.TRef.toBuf, cast_eq]
  pointwise []
  simp only [he, hf, ← EReal.coe_mul]
  rfl

/-- The states, the targets and the biases as rows. -/
theorem states_val (r : Fin 256) (h : Fin 128) : (after hostOps1_2 V (Proc.devRef .tc main_v14) : S256x128.Idx → EReal) (ix2 r h)
    = (V (Proc.devRef .tc main_arg1) : S16x128.Idx → EReal) (ix2 (Net.walk r) h) := by
  after_results_simp
  pointwise []
  rfl

theorem targets_val (r : Fin 256) (h : Fin 128) : (after hostOps1_2 V (Proc.devRef .tc main_v16) : S256x128.Idx → EReal) (ix2 r h)
    = (V (Proc.devRef .tc main_arg2) : S16x1x128.Idx → EReal) (ix3 (Net.walk r) 0 h) := by
  after_results_simp
  pointwise []
  rfl

theorem bias_val (h : Fin 128) : (after hostOps1_2 V (Proc.devRef .tc main_v17) : S1x128.Idx → EReal) (ix2 0 h)
    = (V (Proc.devRef .tc main_arg5) : S128.Idx → EReal) (ix1 h) := by
  after_results_simp
  pointwise []

theorem b1_val (f : Fin 256) : (after hostOps1_2 V (Proc.devRef .tc main_v18) : S1x256.Idx → EReal) (ix2 0 f)
    = (V (Proc.devRef .tc main_arg7) : S256.Idx → EReal) (ix1 f) := by
  after_results_simp
  pointwise []

theorem b2_val (v : Fin 100000) : (after hostOps2 V (Proc.devRef .tc main_v20) : S1x100000.Idx → EReal) (ix2 0 v)
    = (V (Proc.devRef .tc main_arg9) : S100000.Idx → EReal) (ix1 v) := by
  after_results_simp
  pointwise []

/-- The results, from the rows of the batch. -/
theorem path_out (b n : Fin 16) : (after hostOps4 V (Proc.devRef .tc main_v23) : S16x16.Idx → BitVec 32) (ix2 b n)
    = (V (Proc.devRef .tc main_v21_1) : S256x1.Idx → BitVec 32) (ix2 (Net.row b n) 0) := by
  after_results_simp
  pointwise []
  rfl

theorem prob_out (b n : Fin 16) (v : Fin 100000) : (after hostOps4 V (Proc.devRef .tc main_v24) : S16x16x100000.Idx → EReal) (ix3 b n v)
    = (V (Proc.devRef .tc main_v22) : S256x100000.Idx → EReal) (ix2 (Net.row b n) v) := by
  after_results_simp
  pointwise []
  rfl

end Cert.Proof

end
-- ==== Proof.ValGather.lean ====
/-
  What the gather leaves: for each node of each walk, the embedding's row that the path names.
-/
module

public import proofs.«01_k».proof.Proof.Spec
public import proofs.«01_k».proof.Proof.Run

@[expose] public section

set_option maxRecDepth 16384

noncomputable section

namespace Cert.Proof

open Idealize.ShloMosaic
open Idealize.ShloMosaic.TcCoe
open Idealize.ShloMosaic.Pipeline
open Cert.KernelIdeal Cert.KernelIdeal.Gen

variable (a : (p : Fin 4) → (pcfgs (F := Ideal) p).Adm) {V : Valuation τ sig (Elt Ideal)}

theorem coords0 (t : Fin grid0.N) : (grid0.coords t 0).val = t.val := by
  have h := Grid.coords_val (G := grid0) t 0 (S := 1) (B := 16) (by decide) rfl
  have h16 : t.val < 16 := t.isLt
  omega

/-- The gather's output is written back at every block. -/
theorem flush0_16 (t : Fin grid0.N) : ((pin (pcfgs (F := Ideal)) a 0).win 16).flush t = true :=
  (Window.flush_reads ((pin (pcfgs (F := Ideal)) a 0).win 16) rfl 0 (show 1 < grid0.bound 0 by decide) (show grid0.fixedAfter reads0_16 0 = true by decide)
    (Window.sep_of_coord cc0_transform_16 0 0 (fun _ => rfl) (by decide)) (P := 1) (m := 0) (show grid0.stride 0 = 1 by decide) rfl t).mpr (Nat.mod_one _)

/-- What the gather leaves in its array. -/
theorem gather_out {V' : Valuation τ sig (Elt Ideal)} {c : Dev nD} (hL : Leaves a (rds a V) 0 V V' c) (b n : Fin 16) (d : Fin 128) (i : Fin 100000)
    (hi : i.val = rowNo (a 0).1 (grid0.coords ⟨b.val, b.isLt⟩) n) :
    (V' (Proc.devRef .tc main_v2) : S16x16x128.Idx → EReal) (ix3 b n d) = (V (Proc.devRef .tc main_v1) : S100000x1x128.Idx → EReal) (ix3 i 0 d) := by
  have hw : ∀ t : Fin grid0.N, (BitVec.ofNat 32 (grid0.coords t 0).val).toNat = t.val := fun t => by
    have h16 : t.val < 16 := t.isLt
    rw [coords0, BitVec.toNat_ofNat]; omega
  refine arr_forall 16 (hL.1 16) (fun (j : S16x16x128.Idx) (y : EReal) => ∀ t : Fin grid0.N, t.val = (j 0).val → ∀ q : S100000x1x128.Idx,
    (q 0).val = rowNo (a 0).1 (grid0.coords t) (j 1) → (q 2).val = (j 2).val → y = (V (Proc.devRef .tc main_v1) : S100000x1x128.Idx → EReal) q) ?_
    (⟨b.val, b.isLt⟩ : Fin grid0.N) (flush0_16 a _) (ix3 b n d) ?_ ⟨b.val, b.isLt⟩ rfl (ix3 i 0 d) hi rfl
  · rintro t X ⟨Y, _, hX⟩ y t' ht q h0 h2
    have e0 : (((((pin (pcfgs (F := Ideal)) a 0).win 16).blk t).view.emb y : S16x16x128.Idx) (0 : Fin 3)).val = (BitVec.ofNat 32 (grid0.coords t 0).val).toNat * 1 + (y (0 : Fin 3)).val :=
      ((pin (pcfgs (F := Ideal)) a 0).win 16).rect_emb_val t y (0 : Fin 3) rfl
    have e1 : (((((pin (pcfgs (F := Ideal)) a 0).win 16).blk t).view.emb y : S16x16x128.Idx) (1 : Fin 3)).val = 0 * 16 + (y (1 : Fin 3)).val :=
      ((pin (pcfgs (F := Ideal)) a 0).win 16).rect_emb_val t y (1 : Fin 3) rfl
    have e2 : (((((pin (pcfgs (F := Ideal)) a 0).win 16).blk t).view.emb y : S16x16x128.Idx) (2 : Fin 3)).val = 0 * 128 + (y (2 : Fin 3)).val :=
      ((pin (pcfgs (F := Ideal)) a 0).win 16).rect_emb_val t y (2 : Fin 3) rfl
    generalize ((((pin (pcfgs (F := Ideal)) a 0).win 16).blk t).view.emb y : S16x16x128.Idx) = j at e0 e1 e2 ht h0 h2
    rw [hw t] at e0
    have y0 : (y (0 : Fin 3)).val < 1 := (y (0 : Fin 3)).isLt
    obtain rfl : t' = t := Fin.ext (by omega)
    refine hX _ q ?_ ?_
    · refine h0.trans (congrArg (rowNo (a 0).1 (grid0.coords t')) (Fin.ext ?_))
      show (j (1 : Fin 3)).val = (y (1 : Fin 3)).val
      omega
    · show (q 2).val = (y (2 : Fin 3)).val
      omega
  · refine mem_blk ((pin (pcfgs (F := Ideal)) a 0).win 16) _ rfl (ix3 0 n d) (ix3 b n d) (fun k => ?_)
    fin_cases k
    · show b.val = (BitVec.ofNat 32 (grid0.coords ⟨b.val, b.isLt⟩ 0).val).toNat * 1 + 0
      rw [hw]; show b.val = b.val * 1 + 0; omega
    · show n.val = 0 * 16 + n.val; omega
    · show d.val = 0 * 128 + d.val; omega

end Cert.Proof

end
-- ==== Proof.ValHidden.lean ====
/-
  What the kernel for the hidden layer leaves: the hidden rows.
-/
module

public import proofs.«01_k».proof.Proof.Spec
public import proofs.«01_k».proof.Proof.Run

@[expose] public section

set_option maxRecDepth 16384

noncomputable section

namespace Cert.Proof

open Idealize.ShloMosaic
open Idealize.ShloMosaic.TcCoe
open Idealize.ShloMosaic.Pipeline
open Cert.KernelIdeal Cert.KernelIdeal.Gen

/-- The stored value at an index. -/
theorem hidden_at (x : Vec Ideal S256x128 .f32) (w : Vec Ideal S128x128 .f32) (b : Vec Ideal S1x128 .f32) (p : Vec Ideal S256x256 .f32)
    (s t : Vec Ideal S256x128 .f32) (w1 : Vec Ideal S256x128 .f32) (b1 : Vec Ideal S1x256 .f32) (r f : Fin 256) :
    (k1_pay1 x w b p s t w1 b1 (ix2 r f) : EReal)
      = max (∑ h : Fin 128, ((∑ d : Fin 128, (x (ix2 r d) : EReal) * w (ix2 h d) + b (ix2 0 h))
          + (∑ q : Fin 256, (p (ix2 r q) : EReal) * (∑ d : Fin 128, (x (ix2 q d) : EReal) * w (ix2 h d) + b (ix2 0 h)))
          + s (ix2 r h) + t (ix2 r h)) * w1 (ix2 f h) + b1 (ix2 0 f)) 0 := by
  pointwise [k1_pay1]

/-- Rows and nodes of walks are the same numbers. -/
def rowEquiv : Fin 16 × Fin 16 ≃ Fin 256 where
  toFun x := Net.row x.1 x.2
  invFun r := (Net.walk r, Net.node r)
  left_inv x := Prod.ext (Net.walk_row _ _) (Net.node_row _ _)
  right_inv r := Fin.ext (by simp only [Net.row, Net.walk, Net.node]; omega)

/-- The matrix with a sixteenth where two rows are of one walk takes the mean over the walk. -/
theorem mean_row (g : Fin 16 → Fin 16 → ℝ) (b : Fin 16) :
    ∑ q : Fin 256, (if b = Net.walk q then 1 else 0) * (1 / 16) * g (Net.walk q) (Net.node q) = (∑ k, g b k) / 16 := by
  rw [← rowEquiv.sum_comp, Fintype.sum_prod_type]
  simp only [rowEquiv, Equiv.coe_fn_mk, Net.walk_row, Net.node_row, ite_mul, one_mul, zero_mul]
  rw [Finset.sum_comm]
  simp only [Finset.sum_ite_eq, Finset.mem_univ, if_true]
  rw [← Finset.mul_sum]
  ring

variable (a : (p : Fin 4) → (pcfgs (F := Ideal) p).Adm) (N : Net) (V : Valuation τ sig (Elt Ideal))

/-- The memory `V` holds what the hidden layer reads. -/
structure HidIn : Prop where
  rows : ∀ r d, (V (Proc.devRef .tc main_v3) : S256x128.Idx → EReal) (ix2 r d) = ((N.embed (N.path (Net.walk r) (Net.node r)) d : ℝ) : EReal)
  w : ∀ h d, (V (Proc.devRef .tc main_arg4) : S128x128.Idx → EReal) (ix2 h d) = ((N.w h d : ℝ) : EReal)
  bias : ∀ h, (V (Proc.devRef .tc main_v17) : S1x128.Idx → EReal) (ix2 0 h) = ((N.bias h : ℝ) : EReal)
  mean : ∀ r q, (V (Proc.devRef .tc main_v11) : S256x256.Idx → EReal) (ix2 r q) = (((if Net.walk r = Net.walk q then 1 else 0) * (1 / 16) : ℝ) : EReal)
  states : ∀ r h, (V (Proc.devRef .tc main_v14) : S256x128.Idx → EReal) (ix2 r h) = ((N.states (Net.walk r) h : ℝ) : EReal)
  targets : ∀ r h, (V (Proc.devRef .tc main_v16) : S256x128.Idx → EReal) (ix2 r h) = ((N.targets (Net.walk r) h : ℝ) : EReal)
  w1 : ∀ f h, (V (Proc.devRef .tc main_arg6) : S256x128.Idx → EReal) (ix2 f h) = ((N.w1 f h : ℝ) : EReal)
  b1 : ∀ f, (V (Proc.devRef .tc main_v18) : S1x256.Idx → EReal) (ix2 0 f) = ((N.b1 f : ℝ) : EReal)

variable {N V}

/-- The position of an element of a block that starts at the array's origin. -/
theorem whole_pos (x s : ℕ) : x = 0 * s + x := by rw [Nat.zero_mul, Nat.zero_add]

/-- The hidden rows that the body stores. -/
theorem hiddenOut_val (hh : HidIn N V) {t : Fin cfg1.N} {X : Vec Ideal S256x256 .f32} (h : HiddenOut V t X) (r f : Fin 256) :
    (X (ix2 r f) : EReal) = ((N.hid (Net.walk r) (Net.node r) f : ℝ) : EReal) := by
  obtain ⟨X1, X2, X3, X4, X5, X6, X7, X8, ⟨d1, h1⟩, ⟨d2, h2⟩, ⟨d3, h3⟩, ⟨d4, h4⟩, ⟨d5, h5⟩, ⟨d6, h6⟩, ⟨d7, h7⟩, ⟨d8, h8⟩, rfl⟩ := h
  have e1 : ∀ r d, (X1 (ix2 r d) : EReal) = _ := fun r d => (congrFun h1 _).trans ((fill_at (cfg1.win 0) t rfl d1 _ (ix2 r d) (ix2 r d) (fun _ => whole_pos _ _)).trans (hh.rows r d))
  have e2 : ∀ r d, (X2 (ix2 r d) : EReal) = _ := fun r d => (congrFun h2 _).trans ((fill_at (cfg1.win 1) t rfl d2 _ (ix2 r d) (ix2 r d) (fun _ => whole_pos _ _)).trans (hh.w r d))
  have e3 : ∀ d, (X3 (ix2 0 d) : EReal) = _ := fun d => (congrFun h3 _).trans ((fill_at (cfg1.win 2) t rfl d3 _ (ix2 0 d) (ix2 0 d) (fun _ => whole_pos _ _)).trans (hh.bias d))
  have e4 : ∀ r d, (X4 (ix2 r d) : EReal) = _ := fun r d => (congrFun h4 _).trans ((fill_at (cfg1.win 3) t rfl d4 _ (ix2 r d) (ix2 r d) (fun _ => whole_pos _ _)).trans (hh.mean r d))
  have e5 : ∀ r d, (X5 (ix2 r d) : EReal) = _ := fun r d => (congrFun h5 _).trans ((fill_at (cfg1.win 4) t rfl d5 _ (ix2 r d) (ix2 r d) (fun _ => whole_pos _ _)).trans (hh.states r d))
  have e6 : ∀ r d, (X6 (ix2 r d) : EReal) = _ := fun r d => (congrFun h6 _).trans ((fill_at (cfg1.win 5) t rfl d6 _ (ix2 r d) (ix2 r d) (fun _ => whole_pos _ _)).trans (hh.targets r d))
  have e7 : ∀ r d, (X7 (ix2 r d) : EReal) = _ := fun r d => (congrFun h7 _).trans ((fill_at (cfg1.win 6) t rfl d7 _ (ix2 r d) (ix2 r d) (fun _ => whole_pos _ _)).trans (hh.w1 r d))
  have e8 : ∀ d, (X8 (ix2 0 d) : EReal) = _ := fun d => (congrFun h8 _).trans ((fill_at (cfg1.win 7) t rfl d8 _ (ix2 0 d) (ix2 0 d) (fun _ => whole_pos _ _)).trans (hh.b1 d))
  rw [hidden_at]
  simp only [e1, e2, e3, e4, e5, e6, e7, e8, ← EReal.coe_mul, sum_coe, ← EReal.coe_add]
  rw [← EReal.coe_zero, max_coe]
  have hm : ∀ h : Fin 128, ∑ q : Fin 256, (if Net.walk r = Net.walk q then 1 else 0) * (1 / 16)
      * (∑ d, N.embed (N.path (Net.walk q) (Net.node q)) d * N.w h d + N.bias h) = (∑ k, N.inp (Net.walk r) k h) / 16 := fun h =>
    mean_row (fun b n => N.inp b n h) (Net.walk r)
  simp only [hm]
  rfl

/-- The hidden rows are written back once, whole. -/
theorem whole1_8 : win1_8.WholeAt (⟨0, by decide⟩ : Fin grid1.N) := by decide +kernel

/-- What the kernel for the hidden layer leaves in its array. -/
theorem hidden_out (hh : HidIn N V) {V' : Valuation τ sig (Elt Ideal)} {c : Dev nD} (hL : Leaves a (rds a V) 1 V V' c) (r f : Fin 256) :
    (V' (Proc.devRef .tc main_v19) : S256x256.Idx → EReal) (ix2 r f) = ((N.hid (Net.walk r) (Net.node r) f : ℝ) : EReal) := by
  obtain ⟨X, ⟨Y, _, hs⟩, e⟩ := (hL.1 8).emb_eq_of_wholeAt whole1_8
  exact (e (ix2 r f)).trans (hiddenOut_val hh hs r f)

end Cert.Proof

end
-- ==== Proof.ValBlock.lean ====
/-
  What the decoder's two passes compute at one block of columns, over the extended reals, from staged contents that hold the
  numbers of a network.
-/
module

public import proofs.«01_k».proof.Proof.Spec
public import proofs.«01_k».proof.Proof.Gen.KernelIdeal.Skeleton
public import Idealize.ShloMosaic.Lib.StableHlo.Predicate

@[expose] public section

set_option maxRecDepth 16384

noncomputable section

namespace Cert.Proof

open Idealize.ShloMosaic
open Cert.KernelIdeal Cert.KernelIdeal.Gen

/-- The named constants are minus infinity. -/
theorem mask_bot : (Named.named κ "mask" 0xF149F2CA#32 : Ideal .f32) = (⊥ : EReal) :=
  IdealRules.named_const.ideal_named_scalar _ _ _ _ rfl

theorem start_bot : (Named.named κ "start" 0xFF61B1E6#32 : Ideal .f32) = (⊥ : EReal) :=
  IdealRules.named_const.ideal_named_scalar _ _ _ _ rfl

/-! ## The stored values at an index -/

section Forms

variable (i : grid2.Coords) (h : Vec Ideal S256x256 .f32) (w : Vec Ideal S8192x256 .f32) (b : Vec Ideal S1x8192 .f32)
  (g : Vec Ideal S256x8192 .f32) (s : Vec Ideal S256x1 .f32) (r : Fin 256) (x : Fin 8192)

/-- The logit. -/
theorem pay4_at : (k2_pay4 h w b (ix2 r x) : EReal) = ∑ k : Fin 256, (h (ix2 r k) : EReal) * w (ix2 x k) + b (ix2 0 x) := by
  pointwise [k2_pay4]

/-- Whether the column is one of the vocabulary. -/
theorem pay6_at : k2_pay6 i (ix2 r x) = IntOp.cmpi .slt (IntOp.addi (BitVec.ofNat 32 x.val) (Scalar.muli (BitVec.ofNat 32 (i 0).val) 8192#32)) 100000#32 := by
  pointwise [k2_pay6, k2_pay5]

/-- The score. -/
theorem pay7_at : (k2_pay7 i h w b g (ix2 r x) : EReal)
    = Scalar.select (k2_pay6 i (ix2 r x)) ((k2_pay4 h w b (ix2 r x) : EReal) + g (ix2 r x)) (⊥ : EReal) := by
  rw [← mask_bot]
  pointwise [k2_pay7]

/-- The block's greatest score. -/
theorem pay8_at : (k2_pay8 i h w b g (ix2 r 0) : EReal) = Finset.fold max (⊥ : EReal) (fun x : Fin 8192 => (k2_pay7 i h w b g (ix2 r x) : EReal)) Finset.univ := by
  rw [← minusInf]
  pointwise [k2_pay8]

/-- The least column with the greatest score. -/
theorem pay9_at : k2_pay9 i h w b g (ix2 r 0)
    = Finset.fold IntOp.minsi (2147483647#32) (fun x : Fin 8192 => if (k2_pay7 i h w b g (ix2 r x) : EReal) = k2_pay8 i h w b g (ix2 r 0)
        then IntOp.addi (BitVec.ofNat 32 x.val) (Scalar.muli (BitVec.ofNat 32 (i 0).val) 8192#32) else 2147483647#32) Finset.univ := by
  pointwise [k2_pay9, k2_pay5]

/-- The sum so far plus the block's exponentials. -/
theorem pay13_at : (k2_pay13 i h w b s (ix2 r 0) : EReal)
    = (s (ix2 r 0) : EReal) + ∑ x : Fin 8192, Ideal.exp (Scalar.select (k2_pay6 i (ix2 r x)) (k2_pay4 h w b (ix2 r x) : EReal) (⊥ : EReal)) := by
  rw [← mask_bot]
  pointwise [k2_pay13]

/-- The pair so far or the block's, whichever has the greater score. -/
theorem pay2_at (m B : Vec Ideal S256x1 .f32) : (k2_pay2 m B B (ix2 r 0) : EReal) = if (B (ix2 r 0) : EReal) < m (ix2 r 0) then (m (ix2 r 0) : EReal) else B (ix2 r 0) := by
  pointwise [k2_pay2, k2_pay1]

theorem pay3_at (m B : Vec Ideal S256x1 .f32) (I J : Vec Ideal S256x1 .i32) :
    (k2_pay3 m I B J (ix2 r 0) : BitVec 32) = if (B (ix2 r 0) : EReal) < m (ix2 r 0) then I (ix2 r 0) else J (ix2 r 0) := by
  pointwise [k2_pay3, k2_pay1]

/-- The starting values. -/
theorem pay10_at : (k2_pay10 (F := Ideal) (ix2 r 0) : EReal) = 0 := by
  pointwise [k2_pay10]

theorem pay11_at : (k2_pay11 (F := Ideal) (ix2 r 0) : EReal) = ⊥ := by
  rw [← start_bot]
  pointwise [k2_pay11]

theorem pay12_at : k2_pay12 (ix2 r 0) = 0#32 := by
  pointwise [k2_pay12]

/-- The second pass: the exponential times the reciprocal of the row's sum. -/
theorem pay3_1_at : (k3_pay1 h w b s (ix2 r x) : EReal)
    = Ideal.exp (∑ k : Fin 256, (h (ix2 r k) : EReal) * w (ix2 x k) + b (ix2 0 x)) * Ideal.div 1 (s (ix2 r 0)) := by
  pointwise [k3_pay1]

end Forms

/-! ## The numbers -/

/-- The block's first column, and a column of it, as words. -/
theorem col_word (n : Fin 13) (x : Fin 8192) :
    IntOp.addi (BitVec.ofNat 32 x.val) (Scalar.muli (BitVec.ofNat 32 n.val) 8192#32) = BitVec.ofNat 32 (n.val * 8192 + x.val) := by
  have h0 := n.isLt
  have h1 := x.isLt
  apply BitVec.eq_of_toNat_eq
  simp only [IntOp.addi, Scalar.muli, IntOp.muli, BitVec.toNat_add, BitVec.toNat_mul, BitVec.toNat_ofNat]
  omega

/-- The comparison with the vocabulary's size. -/
theorem col_test (v : ℕ) (hv : v < 13 * 8192) : (IntOp.cmpi .slt (BitVec.ofNat 32 v) 100000#32 = 1) ↔ v < 100000 := by
  have e : (BitVec.ofNat 32 v).toInt = v := StableHlo.Predicate.toInt_ofNat_small v (by omega)
  by_cases h : v < 100000 <;> simp [IntOp.cmpi, BitVec.slt, e, h] <;> omega

/-- `X1 … X3` hold the hidden rows and the decoder's block `n`, so far as that lies in the vocabulary. -/
structure Holds3 (N : Net) (n : ℕ) (X1 : Vec Ideal S256x256 .f32) (X2 : Vec Ideal S8192x256 .f32) (X3 : Vec Ideal S1x8192 .f32) : Prop where
  hid : ∀ r k, (X1 (ix2 r k) : EReal) = ((N.hid (Net.walk r) (Net.node r) k : ℝ) : EReal)
  w2 : ∀ (x : Fin 8192) k (hv : n * 8192 + x.val < 100000), (X2 (ix2 x k) : EReal) = ((N.w2 ⟨n * 8192 + x.val, hv⟩ k : ℝ) : EReal)
  b2 : ∀ (x : Fin 8192) (hv : n * 8192 + x.val < 100000), (X3 (ix2 0 x) : EReal) = ((N.b2 ⟨n * 8192 + x.val, hv⟩ : ℝ) : EReal)

/-- The exponential of word `v`'s logit at row `r`; of a number past the vocabulary, zero. -/
def Net.term (N : Net) (r : Fin 256) (v : ℕ) : ℝ :=
  if h : v < 100000 then Real.exp (N.logit (Net.walk r) (Net.node r) ⟨v, h⟩) else 0

/-- The sum of the exponentials over all blocks is the softmax's denominator. -/
theorem Net.sum_term (N : Net) (r : Fin 256) : ∑ v ∈ Finset.range (13 * 8192), N.term r v = N.total (Net.walk r) (Net.node r) := by
  have e : ∑ v ∈ Finset.range 100000, N.term r v = ∑ v ∈ Finset.range (13 * 8192), N.term r v := by
    apply Finset.sum_subset
    · intro v hv; rw [Finset.mem_range] at hv ⊢; omega
    · intro v _ hv; rw [Finset.mem_range] at hv; exact dif_neg hv
  rw [← e, Finset.sum_range]
  exact Finset.sum_congr rfl fun v _ => dif_pos v.isLt

section Numbers

variable {N : Net} {i : grid2.Coords} {X1 : Vec Ideal S256x256 .f32} {X2 : Vec Ideal S8192x256 .f32} {X3 : Vec Ideal S1x8192 .f32}
  {X4 : Vec Ideal S256x8192 .f32}

/-- The test of a column is whether it is in the vocabulary. -/
theorem test_iff (i : grid2.Coords) (r : Fin 256) (x : Fin 8192) : (k2_pay6 i (ix2 r x) = 1) ↔ (i 0).val * 8192 + x.val < 100000 := by
  rw [pay6_at, col_word (i 0) x]
  have h0 : (i 0).val < 13 := (i 0).isLt
  exact col_test _ (by have := x.isLt; omega)

/-- A logit in the vocabulary. -/
theorem logit_in {n : ℕ} (h : Holds3 N n X1 X2 X3) (r : Fin 256) (x : Fin 8192) (hv : n * 8192 + x.val < 100000) :
    ∑ k : Fin 256, (X1 (ix2 r k) : EReal) * X2 (ix2 x k) + X3 (ix2 0 x) = ((N.logit (Net.walk r) (Net.node r) ⟨n * 8192 + x.val, hv⟩ : ℝ) : EReal) := by
  simp only [h.hid, h.w2 x _ hv, h.b2 x hv, ← EReal.coe_mul, sum_coe, ← EReal.coe_add]
  rfl

/-- The block's exponentials join the sum. -/
theorem sum_step (h : Holds3 N (i 0).val X1 X2 X3) (s : Vec Ideal S256x1 .f32) (r : Fin 256)
    (hs : (s (ix2 r 0) : EReal) = ((∑ v ∈ Finset.range ((i 0).val * 8192), N.term r v : ℝ) : EReal)) :
    (k2_pay13 i X1 X2 X3 s (ix2 r 0) : EReal) = ((∑ v ∈ Finset.range (((i 0).val + 1) * 8192), N.term r v : ℝ) : EReal) := by
  have e : ∀ x : Fin 8192, Ideal.exp (Scalar.select (k2_pay6 i (ix2 r x)) (k2_pay4 X1 X2 X3 (ix2 r x) : EReal) (⊥ : EReal))
      = ((N.term r ((i 0).val * 8192 + x.val) : ℝ) : EReal) := by
    intro x
    by_cases hv : (i 0).val * 8192 + x.val < 100000
    · rw [Scalar.select, if_pos ((test_iff i r x).mpr hv), pay4_at, logit_in h r x hv, Ideal.exp_coe, Net.term, dif_pos hv]
    · rw [Scalar.select, if_neg (fun h => hv ((test_iff i r x).mp h)), Net.term, dif_neg hv]
      exact Ideal.exp_bot
  rw [pay13_at, hs, Finset.sum_congr rfl fun x _ => e x, sum_coe, ← EReal.coe_add, add_mul, one_mul, Finset.sum_range_add,
    Finset.sum_range (n := 8192)]

/-- A score of the block. -/
theorem score_in (h : Holds3 N (i 0).val X1 X2 X3)
    (hg : ∀ (r : Fin 256) (x : Fin 8192) (hv : (i 0).val * 8192 + x.val < 100000), (X4 (ix2 r x) : EReal) = N.gumbel r ⟨(i 0).val * 8192 + x.val, hv⟩)
    (r : Fin 256) (x : Fin 8192) : (k2_pay7 i X1 X2 X3 X4 (ix2 r x) : EReal) = N.score r ((i 0).val * 8192 + x.val) := by
  rw [pay7_at]
  by_cases hv : (i 0).val * 8192 + x.val < 100000
  · rw [Scalar.select, if_pos ((test_iff i r x).mpr hv), pay4_at, logit_in h r x hv, hg r x hv, Net.score, dif_pos hv, add_comm]
  · rw [Scalar.select, if_neg (fun h => hv ((test_iff i r x).mp h)), Net.score, dif_neg hv]

/-- The least of finitely many words is the one that is among them and not above any. -/
theorem fold_min {ι : Type} (s : Finset ι) (f : ι → BitVec 32) (c b : BitVec 32) (hb : c.toInt ≤ b.toInt)
    (hle : ∀ x ∈ s, c.toInt ≤ (f x).toInt) (hx : ∃ x ∈ s, f x = c) : Finset.fold IntOp.minsi b f s = c := by
  have hm : ∀ x y : BitVec 32, (IntOp.minsi x y).toInt = min x.toInt y.toInt := by
    intro x y
    unfold IntOp.minsi
    by_cases h : x.toInt < y.toInt
    · rw [if_pos (by simpa [BitVec.slt] using h), min_eq_left h.le]
    · rw [if_neg (by simpa [BitVec.slt] using h), min_eq_right (not_lt.mp h)]
  have e : ∀ t : Finset ι, (Finset.fold IntOp.minsi b f t).toInt = Finset.fold min b.toInt (fun x => (f x).toInt) t := by
    intro t
    induction t using Finset.cons_induction with
    | empty => rfl
    | cons a t h ih => rw [Finset.fold_cons, Finset.fold_cons, hm, ih]
  apply BitVec.eq_of_toInt_eq
  rw [e]
  obtain ⟨x, hx, rfl⟩ := hx
  exact le_antisymm ((Finset.fold_min_le _).mpr (.inr ⟨x, hx, le_rfl⟩)) ((Finset.le_fold_min _).mpr ⟨hb, hle⟩)

/-- The block's best score and the first column with it join the pair so far. -/
theorem best_step (h : Holds3 N (i 0).val X1 X2 X3)
    (hg : ∀ (r : Fin 256) (x : Fin 8192) (hv : (i 0).val * 8192 + x.val < 100000), (X4 (ix2 r x) : EReal) = N.gumbel r ⟨(i 0).val * 8192 + x.val, hv⟩)
    (B : Vec Ideal S256x1 .f32) (r : Fin 256) (w : ℕ) (hB : Best (N.score r) ((i 0).val * 8192) (B (ix2 r 0)) w) :
    ∃ w', Best (N.score r) (((i 0).val + 1) * 8192) (k2_pay2 (k2_pay8 i X1 X2 X3 X4) B B (ix2 r 0)) w'
      ∧ ∀ J : Vec Ideal S256x1 .i32, J (ix2 r 0) = BitVec.ofNat 32 w →
          k2_pay3 (k2_pay8 i X1 X2 X3 X4) (k2_pay9 i X1 X2 X3 X4) B J (ix2 r 0) = BitVec.ofNat 32 w' := by
  have hn : (i 0).val < 13 := (i 0).isLt
  have hz := score_in h hg r
  have hm : (k2_pay8 i X1 X2 X3 X4 (ix2 r 0) : EReal) = Finset.fold max (⊥ : EReal) (fun x : Fin 8192 => N.score r ((i 0).val * 8192 + x.val)) Finset.univ := by
    rw [pay8_at]; exact congrArg (Finset.fold max (⊥ : EReal) · Finset.univ) (funext hz)
  have hi9 := pay9_at i X1 X2 X3 X4 r
  simp only [hz, col_word (i 0)] at hi9
  rw [add_mul, one_mul]
  generalize hM : (k2_pay8 i X1 X2 X3 X4 (ix2 r 0) : EReal) = m at hm hi9
  have hle : ∀ x : Fin 8192, N.score r ((i 0).val * 8192 + x.val) ≤ m := fun x => by
    rw [hm]; exact (Finset.le_fold_max _).mpr (.inr ⟨x, Finset.mem_univ _, le_rfl⟩)
  by_cases hb : (B (ix2 r 0) : EReal) < m
  · have hex : ∃ k, ∃ hk : k < 8192, N.score r ((i 0).val * 8192 + k) = m := by
      have h1 : m ≤ Finset.fold max (⊥ : EReal) (fun x : Fin 8192 => N.score r ((i 0).val * 8192 + x.val)) Finset.univ := hm.le
      rcases (Finset.le_fold_max _).mp h1 with h2 | ⟨x, _, h2⟩
      · exact absurd (lt_of_lt_of_le hb h2) not_lt_bot
      · exact ⟨x.val, x.isLt, le_antisymm (hle x) h2⟩
    classical
    obtain ⟨hk, hkm⟩ := Nat.find_spec hex
    have hmin : ∀ x : Fin 8192, N.score r ((i 0).val * 8192 + x.val) = m → Nat.find hex ≤ x.val := fun x hx => Nat.find_min' hex ⟨x.isLt, hx⟩
    generalize Nat.find hex = k at hk hkm hmin
    have h9 : k2_pay9 i X1 X2 X3 X4 (ix2 r 0) = BitVec.ofNat 32 ((i 0).val * 8192 + k) := by
      have small : ∀ j : ℕ, j < 8192 → (BitVec.ofNat 32 ((i 0).val * 8192 + j)).toInt = (((i 0).val * 8192 + j : ℕ) : ℤ) := fun j hj =>
        StableHlo.Predicate.toInt_ofNat_small _ (by omega)
      have big : (2147483647#32 : BitVec 32).toInt = 2147483647 := rfl
      rw [hi9]
      refine fold_min _ _ _ _ ?_ ?_ ⟨⟨k, hk⟩, Finset.mem_univ _, if_pos hkm⟩
      · rw [small k hk, big]; omega
      · intro x _
        by_cases hx : N.score r ((i 0).val * 8192 + x.val) = m
        · rw [if_pos hx, small k hk, small x.val x.isLt]
          have := hmin x hx
          omega
        · rw [if_neg hx, small k hk, big]; omega
    refine ⟨(i 0).val * 8192 + k, ?_, fun J _ => ?_⟩
    · have hs := Best.step (k := 8192) (m := m) (i := (i 0).val * 8192 + k) hB (fun j hj => hle ⟨j, hj⟩)
        (fun _ => ⟨by omega, by omega, hkm, fun v h1 h2 h3 => by
          obtain ⟨j, rfl⟩ := Nat.exists_eq_add_of_le h1
          exact Nat.add_le_add_left (hmin ⟨j, Nat.lt_of_add_lt_add_left h2⟩ h3) _⟩)
      rw [if_pos hb, if_pos hb] at hs
      rw [pay2_at, hM, if_pos hb]
      exact hs
    · rw [pay3_at, hM, if_pos hb, h9]
  · refine ⟨w, ?_, fun J hJ => ?_⟩
    · have hs := Best.step (k := 8192) (m := m) (i := 0) hB (fun j hj => hle ⟨j, hj⟩) (fun h => absurd h hb)
      rw [if_neg hb, if_neg hb] at hs
      rw [pay2_at, hM, if_neg hb]
      exact hs
    · rw [pay3_at, hM, if_neg hb, hJ]

/-- The second pass: the softmax. -/
theorem prob_in {n : ℕ} (h : Holds3 N n X1 X2 X3) (s : Vec Ideal S256x1 .f32) (r : Fin 256)
    (hs : (s (ix2 r 0) : EReal) = ((N.total (Net.walk r) (Net.node r) : ℝ) : EReal)) (x : Fin 8192) (hv : n * 8192 + x.val < 100000) :
    (k3_pay1 X1 X2 X3 s (ix2 r x) : EReal) = ((N.prob (Net.walk r) (Net.node r) ⟨n * 8192 + x.val, hv⟩ : ℝ) : EReal) := by
  rw [pay3_1_at, logit_in h r x hv, hs, Ideal.exp_coe, Ideal.div_coe (N.total_pos _ _).ne', one_mul, ← EReal.coe_mul, mul_one_div]
  rfl

end Numbers

end Cert.Proof

end
-- ==== Proof.ValPass1.lean ====
/-
  What the first pass leaves: each row's softmax denominator, and the first word with the row's greatest score.
-/
module

public import proofs.«01_k».proof.Proof.ValBlock
public import proofs.«01_k».proof.Proof.Run

@[expose] public section

set_option maxRecDepth 16384

noncomputable section

namespace Cert.Proof

open Idealize.ShloMosaic
open Idealize.ShloMosaic.TcCoe
open Idealize.ShloMosaic.Pipeline
open Cert.KernelIdeal Cert.KernelIdeal.Gen

variable (a : (p : Fin 4) → (pcfgs (F := Ideal) p).Adm) (N : Net) (V : Valuation τ sig (Elt Ideal))

/-- The memory `V` holds the hidden rows and the decoder's weights. -/
structure DecIn : Prop where
  hid : ∀ r k, (V (Proc.devRef .tc main_v19) : S256x256.Idx → EReal) (ix2 r k) = ((N.hid (Net.walk r) (Net.node r) k : ℝ) : EReal)
  w2 : ∀ v k, (V (Proc.devRef .tc main_arg8) : S100000x256.Idx → EReal) (ix2 v k) = ((N.w2 v k : ℝ) : EReal)
  b2 : ∀ v, (V (Proc.devRef .tc main_v20) : S1x100000.Idx → EReal) (ix2 0 v) = ((N.b2 v : ℝ) : EReal)

/-- The memory `V` holds the Gumbel draws. -/
def GumIn : Prop := ∀ r v, (V (Proc.devRef .tc main_arg10) : S256x100000.Idx → EReal) (ix2 r v) = N.gumbel r v

theorem coords2 (t : Fin cfg2.N) : (grid2.coords t 0).val = t.val := by
  have h := Grid.coords_val (G := grid2) t 0 (S := 1) (B := 13) (by decide) rfl
  have h13 : t.val < 13 := t.isLt
  omega

theorem word_val (n : ℕ) (h : n < 13) : (BitVec.ofNat 32 n).toNat = n := by
  rw [BitVec.toNat_ofNat]; omega

/-- The staged contents hold the numbers. -/
theorem staged2 {N : Net} {V : Valuation τ sig (Elt Ideal)} (hd : DecIn N V) (hg : GumIn N V) {t : Fin cfg2.N} {X1 X2 X3 X4} (h : Staged2 V t X1 X2 X3 X4) :
    Holds3 N (grid2.coords t 0).val X1 X2 X3
      ∧ ∀ (r : Fin 256) (x : Fin 8192) (hv : (grid2.coords t 0).val * 8192 + x.val < 100000), (X4 (ix2 r x) : EReal) = N.gumbel r ⟨(grid2.coords t 0).val * 8192 + x.val, hv⟩ := by
  obtain ⟨⟨d1, rfl⟩, ⟨d2, rfl⟩, ⟨d3, rfl⟩, ⟨d4, rfl⟩⟩ := h
  have hw := word_val (grid2.coords t 0).val (grid2.coords t 0).isLt
  refine ⟨⟨fun r k => ?_, fun x k hv => ?_, fun x hv => ?_⟩, fun r x hv => ?_⟩
  · refine (fill_at (cfg2.win 0) t rfl d1 _ (ix2 r k) (ix2 r k) (fun b => ?_)).trans (hd.hid r k)
    fin_cases b
    · show r.val = 0 * 256 + r.val; omega
    · show k.val = 0 * 256 + k.val; omega
  · refine (fill_at (cfg2.win 1) t rfl d2 _ (ix2 x k) (ix2 ⟨_, hv⟩ k) (fun b => ?_)).trans (hd.w2 _ k)
    fin_cases b
    · show (grid2.coords t 0).val * 8192 + x.val = (BitVec.ofNat 32 (grid2.coords t 0).val).toNat * 8192 + x.val; rw [hw]
    · show k.val = 0 * 256 + k.val; omega
  · refine (fill_at (cfg2.win 2) t rfl d3 _ (ix2 0 x) (ix2 0 ⟨_, hv⟩) (fun b => ?_)).trans (hd.b2 _)
    fin_cases b
    · rfl
    · show (grid2.coords t 0).val * 8192 + x.val = (BitVec.ofNat 32 (grid2.coords t 0).val).toNat * 8192 + x.val; rw [hw]
  · refine (fill_at (cfg2.win 3) t rfl d4 _ (ix2 r x) (ix2 r ⟨_, hv⟩) (fun b => ?_)).trans (hg r _)
    fin_cases b
    · show r.val = 0 * 256 + r.val; omega
    · show (grid2.coords t 0).val * 8192 + x.val = (BitVec.ofNat 32 (grid2.coords t 0).val).toNat * 8192 + x.val; rw [hw]

/-- A property that every block passes on holds of what an output's staging buffer is found with. -/
theorem finds2_ind (c : Dev nD) (w : Fin 7) (hin : ∀ t : Fin cfg2.N, ((pin (pcfgs (F := Ideal)) a 2).win w).fetch t = false)
    (hout : ∀ t : Fin cfg2.N, ((pin (pcfgs (F := Ideal)) a 2).win w).flush t = true ↔ t.val % 13 = 12)
    (P : ℕ → (((pin (pcfgs (F := Ideal)) a 2).win w).block.Idx → Elt Ideal ((pin (pcfgs (F := Ideal)) a 2).win w).elt) → Prop) (h0 : ∀ Y, P 0 Y)
    (hs : ∀ (t : Fin cfg2.N) Y X, P t.val Y → (rd2 a V c).after w t Y X → P (t.val + 1) X) :
    ∀ (n : ℕ) (hn : n < cfg2.N) (Y), (rd2 a V c).Finds w ⟨n, hn⟩ Y → P n Y
  | 0, _, Y, _ => h0 Y
  | n + 1, hn, Y, h => by
      rcases (RDat.finds_of_pos (rd2 a V c) (w := w) (t := ⟨n + 1, hn⟩) (hin _) (Nat.succ_ne_zero n) Y).mp h with h | ⟨Y', hY', h'⟩
      · have h12 := (hout ⟨n, Nat.lt_of_succ_lt hn⟩).mp h
        have h13 : n + 1 < 13 := hn
        simp only at h12
        omega
      · exact hs ⟨n, Nat.lt_of_succ_lt hn⟩ Y' Y (finds2_ind c w hin hout P h0 hs n _ Y' hY') h'

/-- What the sum's column holds before block `n`. -/
def SumIs (n : ℕ) (Y : Vec Ideal S256x1 .f32) : Prop :=
  n ≠ 0 → ∀ r : Fin 256, (Y (ix2 r 0) : EReal) = ((∑ v ∈ Finset.range (n * 8192), N.term r v : ℝ) : EReal)

/-- What the best score's column holds before block `n`. -/
def BestIs (n : ℕ) (Y : Vec Ideal S256x1 .f32) : Prop :=
  n ≠ 0 → ∀ r : Fin 256, ∃ w, Best (N.score r) (n * 8192) (Y (ix2 r 0)) w

/-- What the index's column holds before block `n`. -/
def IndexIs (n : ℕ) (J : Vec Ideal S256x1 .i32) : Prop :=
  n ≠ 0 → ∀ r : Fin 256, ∃ b w, Best (N.score r) (n * 8192) b w ∧ J (ix2 r 0) = BitVec.ofNat 32 w

variable {N V}

/-- A block's update of the sum. -/
theorem sumIs_step (hd : DecIn N V) (hg : GumIn N V) (t : Fin cfg2.N) (Y X : Vec Ideal S256x1 .f32) (hY : SumIs N t.val Y) (h : SumStep V t Y X) :
    SumIs N (t.val + 1) X := by
  obtain ⟨X1, X2, X3, X4, hst, rfl⟩ := h
  intro _ r
  have hc := coords2 t
  have key := sum_step (staged2 hd hg hst).1 (atStart (grid2.coords t) (k2_pay10 (F := Ideal)) Y) r ?_
  · rw [hc] at key; exact key
  · unfold atStart
    by_cases h0 : (grid2.coords t 0).val = 0
    · rw [if_pos h0, pay10_at, h0]; simp
    · rw [if_neg h0, hc]; exact hY (hc ▸ h0) r

/-- The pair so far when a block's update begins. -/
theorem best_start (t : Fin cfg2.N) (Y : Vec Ideal S256x1 .f32) (hY : BestIs N t.val Y) (r : Fin 256) :
    ∃ w, Best (N.score r) ((grid2.coords t 0).val * 8192) (atStart (grid2.coords t) (k2_pay11 (F := Ideal)) Y (ix2 r 0)) w := by
  unfold atStart
  by_cases h0 : (grid2.coords t 0).val = 0
  · rw [if_pos h0, pay11_at, h0, zero_mul]; exact ⟨0, Best.nil _⟩
  · rw [if_neg h0, coords2 t]; exact hY (coords2 t ▸ h0) r

/-- A block's update of the best score. -/
theorem bestIs_step (hd : DecIn N V) (hg : GumIn N V) (t : Fin cfg2.N) (Y X : Vec Ideal S256x1 .f32) (hY : BestIs N t.val Y) (h : BestStep V t Y X) :
    BestIs N (t.val + 1) X := by
  obtain ⟨X1, X2, X3, X4, hst, rfl⟩ := h
  intro _ r
  obtain ⟨w, hw⟩ := best_start t Y hY r
  obtain ⟨h3, h4⟩ := staged2 hd hg hst
  obtain ⟨w', hw', _⟩ := best_step h3 h4 _ r w hw
  rw [coords2 t] at hw'
  exact ⟨w', hw'⟩

/-- The best score's column before each block. -/
theorem bestIs_before (hd : DecIn N V) (hg : GumIn N V) : ∀ (n : ℕ) (B : Vec Ideal S256x1 .f32), BestBefore V n B → BestIs N n B
  | 0, _, _ => fun h => absurd rfl h
  | n + 1, B, ⟨h, Y, hY, hs⟩ => bestIs_step hd hg ⟨n, h⟩ Y B (bestIs_before hd hg n Y hY) hs

/-- A block's update of the index. -/
theorem indexIs_step (hd : DecIn N V) (hg : GumIn N V) (t : Fin cfg2.N) (J X : Vec Ideal S256x1 .i32) (hJ : IndexIs N t.val J) (h : IndexStep V t J X) :
    IndexIs N (t.val + 1) X := by
  obtain ⟨X1, X2, X3, X4, hst, B, hB, rfl⟩ := h
  intro _ r
  obtain ⟨w, hw⟩ := best_start t B (bestIs_before hd hg _ _ hB) r
  obtain ⟨h3, h4⟩ := staged2 hd hg hst
  obtain ⟨w', hw', hj⟩ := best_step h3 h4 _ r w hw
  rw [coords2 t] at hw'
  refine ⟨_, w', hw', hj _ ?_⟩
  unfold atStart at hw ⊢
  by_cases h0 : (grid2.coords t 0).val = 0
  · rw [if_pos h0, pay12_at]
    rw [if_pos h0, pay11_at, h0, zero_mul] at hw
    rw [((Best.nil _).unique hw).2]
  · rw [if_neg h0]
    rw [if_neg h0, coords2 t] at hw
    obtain ⟨b, v, hv, e⟩ := hJ (coords2 t ▸ h0) r
    rw [e, (hv.unique hw).2]

/-- The sum and the index are written back once, whole, after the last block. -/
theorem whole2_4 : win2_4.WholeAt (⟨12, by decide⟩ : Fin grid2.N) := by decide +kernel

theorem whole2_5 : win2_5.WholeAt (⟨12, by decide⟩ : Fin grid2.N) := by decide +kernel

/-- What the first pass leaves in its first two arrays. -/
theorem pass1_out (hd : DecIn N V) (hg : GumIn N V) {V' : Valuation τ sig (Elt Ideal)} {c : Dev nD} (hL : Leaves a (rds a V) 2 V V' c) :
    (∀ r, (V' (Proc.devRef .tc main_v21_0) : S256x1.Idx → EReal) (ix2 r 0) = ((N.total (Net.walk r) (Net.node r) : ℝ) : EReal))
      ∧ ∀ r, ∃ b w, Best (N.score r) (13 * 8192) b w ∧ (V' (Proc.devRef .tc main_v21_1) : S256x1.Idx → BitVec 32) (ix2 r 0) = BitVec.ofNat 32 w := by
  constructor
  · intro r
    obtain ⟨X, ⟨Y, hY, hs⟩, e⟩ := (hL.1 4).emb_eq_of_wholeAt whole2_4
    refine (e (ix2 r 0)).trans ?_
    have h := sumIs_step hd hg _ Y X (finds2_ind a V c 4 (fun _ => rfl) flush2_4 (SumIs N) (fun _ h => absurd rfl h) (sumIs_step hd hg) 12 _ Y hY) hs (by decide) r
    rw [← N.sum_term r]
    exact h
  · intro r
    obtain ⟨X, ⟨Y, hY, hs⟩, e⟩ := (hL.1 5).emb_eq_of_wholeAt whole2_5
    obtain ⟨b, w, hw, h⟩ := indexIs_step hd hg _ Y X (finds2_ind a V c 5 (fun _ => rfl) flush2_5 (IndexIs N) (fun _ h => absurd rfl h) (indexIs_step hd hg) 12 _ Y hY) hs (by decide) r
    exact ⟨b, w, hw, (e (ix2 r 0)).trans h⟩

end Cert.Proof

end
-- ==== Proof.ValPass2.lean ====
/-
  What the second pass leaves: the softmax of each row.
-/
module

public import proofs.«01_k».proof.Proof.ValPass1

@[expose] public section

set_option maxRecDepth 16384

noncomputable section

namespace Cert.Proof

open Idealize.ShloMosaic
open Idealize.ShloMosaic.TcCoe
open Idealize.ShloMosaic.Pipeline
open Cert.KernelIdeal Cert.KernelIdeal.Gen

variable (a : (p : Fin 4) → (pcfgs (F := Ideal) p).Adm) {N : Net} {V : Valuation τ sig (Elt Ideal)}

theorem coords3 (t : Fin cfg3.N) : (grid3.coords t 0).val = t.val := by
  have h := Grid.coords_val (G := grid3) t 0 (S := 1) (B := 13) (by decide) rfl
  have h13 : t.val < 13 := t.isLt
  omega

/-- The softmax that a block of the second pass stores. -/
theorem probOut_val (hd : DecIn N V)
    (hs : ∀ r, (V (Proc.devRef .tc main_v21_0) : S256x1.Idx → EReal) (ix2 r 0) = ((N.total (Net.walk r) (Net.node r) : ℝ) : EReal))
    {t : Fin cfg3.N} {X : Vec Ideal S256x8192 .f32} (h : ProbOut V t X) (r : Fin 256) (x : Fin 8192) (hv : t.val * 8192 + x.val < 100000) :
    (X (ix2 r x) : EReal) = ((N.prob (Net.walk r) (Net.node r) ⟨t.val * 8192 + x.val, hv⟩ : ℝ) : EReal) := by
  obtain ⟨X1, X2, X3, X4, ⟨d1, rfl⟩, ⟨d2, rfl⟩, ⟨d3, rfl⟩, ⟨d4, rfl⟩, rfl⟩ := h
  have hw : (BitVec.ofNat 32 (grid3.coords t 0).val).toNat = t.val := by rw [coords3]; exact word_val _ t.isLt
  refine prob_in ⟨fun r k => ?_, fun x k hv => ?_, fun x hv => ?_⟩ _ r ?_ x hv
  · refine (fill_at (cfg3.win 0) t rfl d1 _ (ix2 r k) (ix2 r k) (fun b => ?_)).trans (hd.hid r k)
    fin_cases b
    · show r.val = 0 * 256 + r.val; omega
    · show k.val = 0 * 256 + k.val; omega
  · refine (fill_at (cfg3.win 1) t rfl d2 _ (ix2 x k) (ix2 ⟨_, hv⟩ k) (fun b => ?_)).trans (hd.w2 _ k)
    fin_cases b
    · show t.val * 8192 + x.val = (BitVec.ofNat 32 (grid3.coords t 0).val).toNat * 8192 + x.val; rw [hw]
    · show k.val = 0 * 256 + k.val; omega
  · refine (fill_at (cfg3.win 2) t rfl d3 _ (ix2 0 x) (ix2 0 ⟨_, hv⟩) (fun b => ?_)).trans (hd.b2 _)
    fin_cases b
    · rfl
    · show t.val * 8192 + x.val = (BitVec.ofNat 32 (grid3.coords t 0).val).toNat * 8192 + x.val; rw [hw]
  · refine (fill_at (cfg3.win 3) t rfl d4 _ (ix2 r 0) (ix2 r 0) (fun b => ?_)).trans (hs r)
    fin_cases b
    · show r.val = 0 * 256 + r.val; omega
    · rfl

/-- What the second pass leaves in its array. -/
theorem pass2_out (hd : DecIn N V)
    (hs : ∀ r, (V (Proc.devRef .tc main_v21_0) : S256x1.Idx → EReal) (ix2 r 0) = ((N.total (Net.walk r) (Net.node r) : ℝ) : EReal))
    {V' : Valuation τ sig (Elt Ideal)} {c : Dev nD} (hL : Leaves a (rds a V) 3 V V' c) (r : Fin 256) (v : Fin 100000) :
    (V' (Proc.devRef .tc main_v22) : S256x100000.Idx → EReal) (ix2 r v) = ((N.prob (Net.walk r) (Net.node r) v : ℝ) : EReal) := by
  have hv := v.isLt
  have hw : ∀ t : Fin cfg3.N, (BitVec.ofNat 32 (grid3.coords t 0).val).toNat = t.val := fun t => by rw [coords3]; exact word_val _ t.isLt
  let t₀ : Fin cfg3.N := ⟨v.val / 8192, by show _ < 13; omega⟩
  refine arr_forall 4 (hL.1 4) (fun (i : S256x100000.Idx) (y : EReal) => ∀ (r : Fin 256) (v : Fin 100000), r.val = (i 0).val → v.val = (i 1).val →
    y = ((N.prob (Net.walk r) (Net.node r) v : ℝ) : EReal)) ?_ t₀ (flush3_4 _) (ix2 r v) ?_ r v rfl rfl
  · rintro t X ⟨Y, _, hX⟩ y r v hr hv
    have e0 : ((((cfg3.win 4).blk t).view.emb y : S256x100000.Idx) (0 : Fin 2)).val = 0 * 256 + (y (0 : Fin 2)).val := (cfg3.win 4).rect_emb_val t y (0 : Fin 2) rfl
    have e1 : ((((cfg3.win 4).blk t).view.emb y : S256x100000.Idx) (1 : Fin 2)).val = (BitVec.ofNat 32 (grid3.coords t 0).val).toNat * 8192 + (y (1 : Fin 2)).val :=
      (cfg3.win 4).rect_emb_val t y (1 : Fin 2) rfl
    replace hr : r.val = (y (0 : Fin 2)).val := by rw [hr]; exact e0.trans (by omega)
    replace hv : v.val = t.val * 8192 + (y (1 : Fin 2)).val := by rw [hv, ← hw t]; exact e1
    have hx : (y (1 : Fin 2)).val < 8192 := lt_of_lt_of_le (y (1 : Fin 2)).isLt ((cfg3.win 4).xsize_le _ (1 : Fin 2))
    have key := probOut_val hd hs hX r ⟨(y (1 : Fin 2)).val, hx⟩ (hv ▸ v.isLt)
    have ev : (⟨t.val * 8192 + (y (1 : Fin 2)).val, hv ▸ v.isLt⟩ : Fin 100000) = v := Fin.ext hv.symm
    rw [ev] at key
    refine Eq.trans (congrArg X (funext fun b => ?_)) key
    fin_cases b
    · exact Fin.ext hr.symm
    · rfl
  · refine mem_blk (cfg3.win 4) t₀ rfl (ix2 r ⟨v.val % 8192, Nat.mod_lt _ (by norm_num)⟩) (ix2 r v) (fun b => ?_)
    fin_cases b
    · show r.val = 0 * 256 + r.val; omega
    · show v.val = (BitVec.ofNat 32 (grid3.coords t₀ 0).val).toNat * 8192 + v.val % 8192
      rw [hw t₀]; show v.val = v.val / 8192 * 8192 + v.val % 8192; omega

end Cert.Proof

end
-- ==== Proof.ValAll.lean ====
/-
  What the whole kernel leaves: its two results, from arguments that hold the numbers of a network.
-/
module

public import proofs.«01_k».proof.Proof.Keep
public import proofs.«01_k».proof.Proof.ValHost
public import proofs.«01_k».proof.Proof.ValGather
public import proofs.«01_k».proof.Proof.ValHidden
public import proofs.«01_k».proof.Proof.ValPass2

@[expose] public section

noncomputable section

namespace Cert.Proof

open Idealize.ShloMosaic
open Idealize.ShloMosaic.TcCoe
open Idealize.ShloMosaic.Pipeline
open Cert.KernelIdeal Cert.KernelIdeal.Gen

variable (N : Net) (m : (ℓ : Loc nD τ sig) → Buf (Elt Ideal) ℓ)

/-- The kernel's arguments hold the numbers of `N`. -/
abbrev Launched : Prop :=
  N.Holds (launchV m (Proc.devRef .tc main_arg0)) (launchV m (Proc.devRef .tc main_arg1)) (launchV m (Proc.devRef .tc main_arg2))
    (launchV m (Proc.devRef .tc main_arg3)) (launchV m (Proc.devRef .tc main_arg4)) (launchV m (Proc.devRef .tc main_arg5))
    (launchV m (Proc.devRef .tc main_arg6)) (launchV m (Proc.devRef .tc main_arg7)) (launchV m (Proc.devRef .tc main_arg8))
    (launchV m (Proc.devRef .tc main_arg9)) (launchV m (Proc.devRef .tc main_arg10))

variable {N m}

/-- After the gather: the embedding's row at each node of each walk. -/
theorem gathered (hN : Launched N m) (hp : PathOk m) {V : Valuation τ sig (Elt Ideal)} (h : At2 (tables m (table_ok m hp)) m V) (b n : Fin 16) (d : Fin 128) :
    (V (Proc.devRef .tc main_v2) : S16x16x128.Idx → EReal) (ix3 b n d) = ((N.embed (N.path b n) d : ℝ) : EReal) := by
  obtain ⟨V1, ⟨V0, rfl, rfl⟩, h⟩ := h
  have hi : (N.path b n).val = rowNo (table m) (grid0.coords ⟨b.val, b.isLt⟩) n := by
    refine Eq.symm ((rowNo_val m _ n (ix2 b n) (coords0 _).symm rfl).trans ?_)
    rw [show pathOf m (ix2 b n) = _ from hN.path b n, BitVec.toNat_ofNat]
    have := (N.path b n).isLt
    omega
  exact (gather_out _ h b n d (N.path b n) hi).trans ((blocks_val _ _ _).trans (hN.embed _ _))

/-- What the hidden layer reads. -/
theorem hidden_in (hN : Launched N m) (hp : PathOk m) {V : Valuation τ sig (Elt Ideal)} (h : At5 (tables m (table_ok m hp)) m V) : HidIn N V := by
  have k := fun b hb => At5.keep _ m h b hb
  obtain ⟨V4, ⟨V3, ⟨V2, h2, rfl⟩, rfl⟩, rfl⟩ := h
  have k4 : ∀ b : Ref sig .tc, b ∉ early → StableHlo.after hostOps1_1 (StableHlo.after hostOps1 V2) (Proc.devRef .tc b) = launchV m (Proc.devRef .tc b) := fun b hb => by
    rw [show launchV m (Proc.devRef .tc b) = m (0, Proc.devRef .tc b) from rfl, ← k b hb, Hosted.keep hostOps1_2_writes _ b (fun hc => hb (List.mem_append_right _ hc))]
  constructor
  · intro r d
    rw [Hosted.keep hostOps1_2_writes _ _ (by decide), Hosted.keep hostOps1_1_writes _ _ (by decide)]
    exact (rows_val _ r d).trans (gathered hN hp h2 _ _ d)
  · intro h d
    rw [k _ (by decide)]; exact hN.w h d
  · intro h
    rw [bias_val, k4 _ (by decide)]; exact hN.bias h
  · intro r q
    rw [Hosted.keep hostOps1_2_writes _ _ (by decide)]
    exact kron_val _ (fun p q => if p = q then 1 else 0) (fun _ _ => 1 / 16) (eye_val V2) (sixteenths_val V2) r q
  · intro r h
    rw [states_val, k4 _ (by decide)]; exact hN.states _ h
  · intro r h
    rw [targets_val, k4 _ (by decide)]; exact hN.targets _ h
  · intro f h
    rw [k _ (by decide)]; exact hN.w1 f h
  · intro f
    rw [b1_val, k4 _ (by decide)]; exact hN.b1 f

/-- What the passes over the vocabulary read. -/
theorem dec_in (hN : Launched N m) (hp : PathOk m) {V : Valuation τ sig (Elt Ideal)} (h : At7 (tables m (table_ok m hp)) m V) : DecIn N V ∧ GumIn N V := by
  obtain ⟨V6, ⟨V5, h5, h6⟩, rfl⟩ := h
  have k6 : ∀ b : Ref sig .tc, b ∉ early → b ∉ [main_v19] → V6 (Proc.devRef .tc b) = launchV m (Proc.devRef .tc b) := fun b hb hb' => by
    rw [keep1 _ h6 b hb', At5.keep _ m h5 b hb]
  refine ⟨⟨fun r k => ?_, fun v k => ?_, fun v => ?_⟩, fun r v => ?_⟩
  · rw [Hosted.keep hostOps2_writes _ _ (by decide)]
    exact hidden_out _ (hidden_in hN hp h5) h6 r k
  · rw [Hosted.keep hostOps2_writes _ _ (by decide), k6 _ (by decide) (by decide)]; exact hN.w2 v k
  · rw [b2_val, k6 _ (by decide) (by decide)]; exact hN.b2 v
  · rw [Hosted.keep hostOps2_writes _ _ (by decide), k6 _ (by decide) (by decide)]; exact hN.gumbel r v

/-- The kernel's results: the probabilities, and the first word with the greatest score. -/
theorem results (hN : Launched N m) (hp : PathOk m) {V : Valuation τ sig (Elt Ideal)} (h : At10 (tables m (table_ok m hp)) m V) :
    (∀ b n v, (V (Proc.devRef .tc main_v24) : S16x16x100000.Idx → EReal) (ix3 b n v) = ((N.prob b n v : ℝ) : EReal))
      ∧ ∀ b n, ∃ x w, Best (N.score (Net.row b n)) (13 * 8192) x w
          ∧ (V (Proc.devRef .tc main_v23) : S16x16.Idx → BitVec 32) (ix2 b n) = BitVec.ofNat 32 w := by
  obtain ⟨V9, ⟨V8, ⟨V7, h7, h8⟩, h9⟩, rfl⟩ := h
  obtain ⟨hd, hg⟩ := dec_in hN hp h7
  obtain ⟨ht, hb⟩ := pass1_out _ hd hg h8
  constructor
  · intro b n v
    rw [prob_out]
    have hd' : DecIn N V8 := ⟨fun r k => by rw [keep2 _ h8 _ (by decide)]; exact hd.hid r k,
      fun v k => by rw [keep2 _ h8 _ (by decide)]; exact hd.w2 v k, fun v => by rw [keep2 _ h8 _ (by decide)]; exact hd.b2 v⟩
    have := pass2_out _ hd' ht h9 (Net.row b n) v
    rwa [Net.walk_row, Net.node_row] at this
  · intro b n
    obtain ⟨x, w, h1, h2⟩ := hb (Net.row b n)
    refine ⟨x, w, h1, ?_⟩
    rw [path_out, keep3 _ h9 _ (by decide)]
    exact h2

end Cert.Proof

end
-- ==== Proof.RefValue.lean ====
/-
  What the reference computes, stage by stage, from arguments that hold the numbers of a network.
-/
module

public import proofs.«01_k».proof.Proof.RefRun
public import proofs.«01_k».proof.Proof.Spec

@[expose] public section

noncomputable section

namespace Cert.Proof.Ref

open Idealize.ShloMosaic
open Idealize.ShloMosaic.TcCoe
open Cert.ReferenceIdeal Cert.ReferenceIdeal.Gen
open StableHlo (after)

variable (N : Net) (V : Valuation τ sig (Elt Ideal))

/-- The first layer with the walk's mean added. -/
theorem mix_val (hx : ∀ b n d, (V (Proc.devRef .tc main_v0) : S16x16x128.Idx → EReal) (ix3 b n d) = ((N.embed (N.path b n) d : ℝ) : EReal))
    (hw : ∀ h d, (V (Proc.devRef .tc main_arg4) : S128x128.Idx → EReal) (ix2 h d) = ((N.w h d : ℝ) : EReal))
    (hb : ∀ h, (V (Proc.devRef .tc main_arg5) : S128.Idx → EReal) (ix1 h) = ((N.bias h : ℝ) : EReal)) (b n : Fin 16) (h : Fin 128) :
    (after opsIn V (Proc.devRef .tc main_v11) : S16x16x128.Idx → EReal) (ix3 b n h) = ((N.mix b n h : ℝ) : EReal) := by
  unfold opsIn
  after_results_simp
  pointwise []
  simp only [hx, hw, hb, ← EReal.coe_mul, sum_coe, ← EReal.coe_add]
  rw [sixteen, div_real _ _ (by norm_num), ← EReal.coe_add]
  rfl

/-- The hidden layer. -/
theorem hid_val (hx : ∀ b n h, (V (Proc.devRef .tc main_v11) : S16x16x128.Idx → EReal) (ix3 b n h) = ((N.mix b n h : ℝ) : EReal))
    (hs : ∀ b h, (V (Proc.devRef .tc main_arg1) : S16x128.Idx → EReal) (ix2 b h) = ((N.states b h : ℝ) : EReal))
    (ht : ∀ b h, (V (Proc.devRef .tc main_arg2) : S16x1x128.Idx → EReal) (ix3 b 0 h) = ((N.targets b h : ℝ) : EReal))
    (hw : ∀ f h, (V (Proc.devRef .tc main_arg6) : S256x128.Idx → EReal) (ix2 f h) = ((N.w1 f h : ℝ) : EReal))
    (hb : ∀ f, (V (Proc.devRef .tc main_arg7) : S256.Idx → EReal) (ix1 f) = ((N.b1 f : ℝ) : EReal)) (b n : Fin 16) (f : Fin 256) :
    (after opsHid V (Proc.devRef .tc main_v23) : S16x16x256.Idx → EReal) (ix3 b n f) = ((N.hid b n f : ℝ) : EReal) := by
  unfold opsHid
  after_results_simp
  pointwise []
  simp only [hx, hs, ht, hw, hb, ← EReal.coe_mul, sum_coe, ← EReal.coe_add]
  rw [← EReal.coe_zero, max_coe]
  rfl

/-- The logits. -/
theorem logit_val (hx : ∀ b n f, (V (Proc.devRef .tc main_v23) : S16x16x256.Idx → EReal) (ix3 b n f) = ((N.hid b n f : ℝ) : EReal))
    (hw : ∀ v f, (V (Proc.devRef .tc main_arg8) : S100000x256.Idx → EReal) (ix2 v f) = ((N.w2 v f : ℝ) : EReal))
    (hb : ∀ v, (V (Proc.devRef .tc main_arg9) : S100000.Idx → EReal) (ix1 v) = ((N.b2 v : ℝ) : EReal)) (b n : Fin 16) (v : Fin 100000) :
    (after opsLog V (Proc.devRef .tc main_v28) : S16x16x100000.Idx → EReal) (ix3 b n v) = ((N.logit b n v : ℝ) : EReal) := by
  unfold opsLog
  after_results_simp
  pointwise []
  simp only [hx, hw, hb, ← EReal.coe_mul, sum_coe, ← EReal.coe_add]
  rfl

/-- The greatest logit of a row is a real number. -/
theorem row_max (hx : ∀ b n v, (V (Proc.devRef .tc main_v28) : S16x16x100000.Idx → EReal) (ix3 b n v) = ((N.logit b n v : ℝ) : EReal))
    (q : S16x16.Idx) : ∃ M : ℝ, (after opsMax V (Proc.devRef .tc main_v29) : S16x16.Idx → EReal) q = ((M : ℝ) : EReal) := by
  obtain ⟨M, hM⟩ := fold_max_real Finset.univ ⟨(⟨0, by norm_num⟩ : Fin 100000), Finset.mem_univ _⟩ (N.logit (q 0) (q 1))
  refine ⟨M, ?_⟩
  rw [← hM]
  unfold opsMax
  after_results_simp
  pointwise []
  rw [minusInf]
  exact congrArg (Finset.fold max (⊥ : EReal) · Finset.univ) (funext fun v => hx (q 0) (q 1) v)

/-- The softmax from the logits and each row's greatest. -/
theorem quot_val (hx : ∀ b n v, (V (Proc.devRef .tc main_v28) : S16x16x100000.Idx → EReal) (ix3 b n v) = ((N.logit b n v : ℝ) : EReal))
    (M : S16x16.Idx → ℝ) (hM : ∀ q, (V (Proc.devRef .tc main_v29) : S16x16.Idx → EReal) q = ((M q : ℝ) : EReal)) (b n : Fin 16) (v : Fin 100000) :
    (after opsQuot V (Proc.devRef .tc main_v39) : S16x16x100000.Idx → EReal) (ix3 b n v) = ((N.prob b n v : ℝ) : EReal) := by
  unfold opsQuot
  after_results_simp
  pointwise []
  simp only [hM, hx]
  rw [minusInf, max_eq_right bot_le]
  exact softmax_real (N.logit b n) _ (fun _ => rfl) v _ rfl _

/-- The softmax. -/
theorem prob_val (hx : ∀ b n v, (V (Proc.devRef .tc main_v28) : S16x16x100000.Idx → EReal) (ix3 b n v) = ((N.logit b n v : ℝ) : EReal))
    (b n : Fin 16) (v : Fin 100000) :
    (after opsSoft V (Proc.devRef .tc main_v39) : S16x16x100000.Idx → EReal) (ix3 b n v) = ((N.prob b n v : ℝ) : EReal) := by
  choose M hM using row_max N V hx
  rw [opsSoft, after_append]
  refine quot_val N _ ?_ M hM b n v
  intro b n v
  rw [StableHlo.after_of_writes_sub (W := [main_cst_2, main_v29]) _ _ (StableHlo.forall_writes_sub_of_map rfl) (by decide)]
  exact hx b n v

end Cert.Proof.Ref

end
-- ==== Proof.RefTake.lean ====
/-
  The embedding rows that the path names, as the reference takes them.
-/
module

public import proofs.«01_k».proof.Proof.RefValue
public import Idealize.ShloMosaic.Lib.StableHlo.Predicate

@[expose] public section

noncomputable section

namespace Cert.Proof.Ref

open Idealize.ShloMosaic
open Idealize.ShloMosaic.TcCoe
open Cert.ReferenceIdeal Cert.ReferenceIdeal.Gen
open StableHlo (after)

/-- The rows of a table at given numbers: where the number is `i`, row `i`. -/
theorem take_row {α : Type} (x : S100000x128.Idx → α) (idx : IVec S16x16x1 32) (b n : Fin 16) (d : Fin 128) (i : Fin 100000)
    (hi : idx (ix3 b n 0) = BitVec.ofNat 32 i.val) :
    Host.gather gather_S100000x128_S16x16x1_S16x16x128_2_0_n_n_0_2_1128 x idx (ix3 b n d) = x (ix2 i d) := by
  unfold Host.gather
  refine congrArg x (funext fun a => Fin.ext ?_)
  have hN : ∀ a, a ∉ gather_S100000x128_S16x16x1_S16x16x128_2_0_n_n_0_2_1128.operandBatchingDims := fun _ => List.not_mem_nil
  show GatherDims.start _ (ix3 b n d) idx a + GatherDims.batchCoord _ (ix3 b n d) a + GatherDims.offCoord _ (ix3 b n d) a = (ix2 i d a).val
  rw [GatherDims.batchCoord_eq_zero _ _ _ (hN a)]
  have h01 : a = 0 ∨ a = 1 := match a with | ⟨0, _⟩ => .inl rfl | ⟨1, _⟩ => .inr rfl
  rcases h01 with rfl | rfl
  · have hk : (0 : Fin 2) ∉ gather_S100000x128_S16x16x1_S16x16x128_2_0_n_n_0_2_1128.sKept := fun h =>
      ((GatherDims.mem_sKept _ _).1 h).1 (List.mem_singleton.2 rfl)
    have hm : (0 : Fin 2) ∈ gather_S100000x128_S16x16x1_S16x16x128_2_0_n_n_0_2_1128.startIndexMap := List.mem_singleton.2 rfl
    rw [GatherDims.offCoord_eq_zero _ _ _ hk, GatherDims.start, dif_pos hm]
    have hs : GatherDims.siIdx gather_S100000x128_S16x16x1_S16x16x128_2_0_n_n_0_2_1128 (ix3 b n d) ⟨_, List.idxOf_lt_length_iff.2 hm⟩ = ix3 b n 0 :=
      funext fun c => match c with | ⟨0, _⟩ => rfl | ⟨1, _⟩ => rfl | ⟨2, _⟩ => rfl
    have hl := i.isLt
    rw [hs, hi, StableHlo.Predicate.toInt_ofNat_small _ (by omega)]
    show min ((i.val : Int)).toNat (100000 - 1) + 0 + 0 = i.val
    omega
  · have hm : (1 : Fin 2) ∉ gather_S100000x128_S16x16x1_S16x16x128_2_0_n_n_0_2_1128.startIndexMap := fun h => by
      simpa using List.mem_singleton.1 h
    rw [GatherDims.start, dif_neg hm]
    show 0 + 0 + _ = d.val
    rw [Nat.zero_add]
    rfl

variable (N : Net) (V : Valuation τ sig (Elt Ideal))

/-- The row numbers. -/
theorem idx_val (hp : ∀ b n, (V (Proc.devRef .tc main_arg0) : S16x16.Idx → BitVec 32) (ix2 b n) = BitVec.ofNat 32 (N.path b n).val) (b n : Fin 16) :
    (after opsIdx V (Proc.devRef .tc main_call0_v5) : S16x16x1.Idx → BitVec 32) (ix3 b n 0) = BitVec.ofNat 32 (N.path b n).val := by
  unfold opsIdx
  after_results_simp
  simp only [StableHlo.TRef.ofBuf_toBuf]
  simp only [StableHlo.TRef.ofBuf, StableHlo.TRef.toBuf, cast_eq]
  pointwise []
  rw [hp, Scalar.select, if_neg]
  have h := (N.path b n).isLt
  have hn : ¬ ((N.path b n).val : Int) < 0 := by omega
  simp [IntOp.cmpi, BitVec.slt, StableHlo.Predicate.toInt_ofNat_small (N.path b n).val (by omega), hn]

/-- The conjunction of ones is one. -/
theorem all_ones (x : S16x16x1.Idx → BitVec 1) (hx : ∀ i, x i = 1#1) (q : S16x16.Idx) :
    Host.reduce IntOp.andi x (constantI S_ 1 1#1) reducesTo_S16x16x1_S16x16_d2 h_S_ q = 1#1 := by
  rw [Host.reduce_eq_foldl]
  generalize List.filter _ _ = l
  show l.foldl (fun r i => IntOp.andi r (x i)) 1#1 = 1#1
  induction l with
  | nil => rfl
  | cons a l ih => rw [List.foldl_cons, hx]; exact ih

/-- Every row number is in range. -/
theorem mask_val (hi : ∀ b n, (V (Proc.devRef .tc main_call0_v5) : S16x16x1.Idx → BitVec 32) (ix3 b n 0) = BitVec.ofNat 32 (N.path b n).val)
    (q : S16x16.Idx) :
    (after opsMask V (Proc.devRef .tc main_call0_v12) : S16x16.Idx → BitVec 1) q = 1#1 := by
  unfold opsMask
  after_results_simp
  simp only [StableHlo.TRef.ofBuf_toBuf]
  refine all_ones _ (fun i => ?_) q
  obtain ⟨b, n, rfl⟩ : ∃ b n, i = ix3 b n 0 := ⟨i 0, i 1, (eq_ix3 i).trans (congrArg (ix3 (i 0) (i 1)) (Subsingleton.elim (α := Fin 1) (i 2) 0))⟩
  simp only [StableHlo.TRef.ofBuf, cast_eq]
  pointwise []
  have h := (N.path b n).isLt
  have h0 : (0 : Int) ≤ (N.path b n).val := by omega
  have h1 : ((N.path b n).val : Int) ≤ 99999 := by omega
  simp [hi, IntOp.cmpi, IntOp.andi, BitVec.sle, StableHlo.Predicate.toInt_ofNat_small (N.path b n).val (by omega), h0, h1]

/-- The rows. -/
theorem row_val (hi : ∀ b n, (V (Proc.devRef .tc main_call0_v5) : S16x16x1.Idx → BitVec 32) (ix3 b n 0) = BitVec.ofNat 32 (N.path b n).val)
    (hm : ∀ q, (V (Proc.devRef .tc main_call0_v12) : S16x16.Idx → BitVec 1) q = 1#1)
    (he : ∀ i d, (V (Proc.devRef .tc main_arg3) : S100000x128.Idx → EReal) (ix2 i d) = ((N.embed i d : ℝ) : EReal)) (b n : Fin 16) (d : Fin 128) :
    (after opsRow V (Proc.devRef .tc main_v0) : S16x16x128.Idx → EReal) (ix3 b n d) = ((N.embed (N.path b n) d : ℝ) : EReal) := by
  unfold opsRow
  after_results_simp
  simp only [StableHlo.TRef.ofBuf_toBuf]
  simp only [StableHlo.TRef.ofBuf, StableHlo.TRef.toBuf, cast_eq]
  have hg := take_row (V (Proc.devRef .tc main_arg3)) (V (Proc.devRef .tc main_call0_v5)) b n d (N.path b n) (hi b n)
  generalize Host.gather gather_S100000x128_S16x16x1_S16x16x128_2_0_n_n_0_2_1128 (V (Proc.devRef .tc main_arg3)) (V (Proc.devRef .tc main_call0_v5)) = G at hg ⊢
  pointwise []
  rw [hm, hg, he]
  rfl

/-- The reference's embedding rows. -/
theorem take_val (hp : ∀ b n, (V (Proc.devRef .tc main_arg0) : S16x16.Idx → BitVec 32) (ix2 b n) = BitVec.ofNat 32 (N.path b n).val)
    (he : ∀ i d, (V (Proc.devRef .tc main_arg3) : S100000x128.Idx → EReal) (ix2 i d) = ((N.embed i d : ℝ) : EReal)) (b n : Fin 16) (d : Fin 128) :
    (after opsTake V (Proc.devRef .tc main_v0) : S16x16x128.Idx → EReal) (ix3 b n d) = ((N.embed (N.path b n) d : ℝ) : EReal) := by
  have hi := idx_val N V hp
  have k5 : ∀ W : Valuation τ sig (Elt Ideal), after opsMask W (Proc.devRef .tc main_call0_v5) = W (Proc.devRef .tc main_call0_v5) := fun W =>
    StableHlo.after_of_writes_sub (W := [main_call0_c_1, main_call0_c_2, main_call0_v6, main_call0_v7, main_call0_v8, main_call0_v9,
      main_call0_v10, main_call0_v11, main_call0_c_3, main_call0_v12]) _ _ (StableHlo.forall_writes_sub_of_map rfl) (by decide)
  have k3 : ∀ W : Valuation τ sig (Elt Ideal), after opsMask W (Proc.devRef .tc main_arg3) = W (Proc.devRef .tc main_arg3) := fun W =>
    StableHlo.after_of_writes_sub (W := [main_call0_c_1, main_call0_c_2, main_call0_v6, main_call0_v7, main_call0_v8, main_call0_v9,
      main_call0_v10, main_call0_v11, main_call0_c_3, main_call0_v12]) _ _ (StableHlo.forall_writes_sub_of_map rfl) (by decide)
  have k3' : after opsIdx V (Proc.devRef .tc main_arg3) = V (Proc.devRef .tc main_arg3) :=
    StableHlo.after_of_writes_sub (W := [main_call0_c, main_call0_v0, main_call0_v1, main_call0_c_0, main_call0_v2, main_call0_v3, main_call0_v4,
      main_call0_v5]) _ _ (StableHlo.forall_writes_sub_of_map rfl) (by decide)
  rw [opsTake, after_append, after_append]
  refine row_val N _ (fun b n => ?_) (mask_val N _ hi) (fun i d => ?_) b n d
  · rw [k5]; exact hi b n
  · rw [k3, k3']; exact he i d

end Cert.Proof.Ref

end
-- ==== Proof.RefArg.lean ====
/-
  The first index with the greatest score, as the reference takes it.
-/
module

public import proofs.«01_k».proof.Proof.RefValue
public import Idealize.ShloMosaic.Lib.StableHlo.Predicate

@[expose] public section

noncomputable section

namespace Cert.Proof.Ref

open Idealize.ShloMosaic
open Idealize.ShloMosaic.TcCoe
open Cert.ReferenceIdeal Cert.ReferenceIdeal.Gen
open StableHlo (after)

/-- Pair `p` comes after pair `q`, or is the same: its score is less, or equal with an index at least as great. -/
def Behind (p q : EReal × BitVec 32) : Prop := p.1 < q.1 ∨ (p.1 = q.1 ∧ q.2.toInt ≤ p.2.toInt)

theorem Behind.refl (p : EReal × BitVec 32) : Behind p p := .inr ⟨rfl, le_refl _⟩

theorem Behind.trans {p q r : EReal × BitVec 32} (h : Behind p q) (h' : Behind q r) : Behind p r := by
  rcases h with h | ⟨h, hi⟩ <;> rcases h' with h' | ⟨h', hi'⟩
  · exact .inl (h.trans h')
  · exact .inl (h' ▸ h)
  · exact .inl (h ▸ h')
  · exact .inr ⟨h.trans h', hi'.trans hi⟩

/-- The reference keeps one of two pairs, and the other is behind it. -/
theorem keeps_first (p q : EReal × BitVec 32) :
    (reducer_argmax_f32_i32 (F := Ideal) p q = p ∧ Behind q p) ∨ (reducer_argmax_f32_i32 (F := Ideal) p q = q ∧ Behind p q) := by
  obtain ⟨a, i⟩ := p
  obtain ⟨b, j⟩ := q
  have e : reducer_argmax_f32_i32 (F := Ideal) (a, i) (b, j)
      = (if b < a then a else b, if b < a ∨ (a = b ∧ i.toInt < j.toInt) then i else j) := by
    simp only [reducer_argmax_f32_i32, Ideal.cmpf_def, Ideal.cmp]
    by_cases h1 : b < a <;> by_cases h2 : a = b <;> by_cases h3 : i.toInt < j.toInt <;>
      simp [h1, h2, h3, Scalar.select, IntOp.ori, IntOp.andi, IntOp.cmpi, BitVec.slt]
  rw [e]
  rcases lt_trichotomy a b with h | h | h
  · refine .inr ⟨?_, .inl h⟩
    rw [if_neg h.not_gt, if_neg (by rintro (h' | ⟨h', _⟩); exacts [h.not_gt h', h.ne h'])]
  · subst h
    by_cases hi : i.toInt < j.toInt
    · refine .inl ⟨?_, .inr ⟨rfl, hi.le⟩⟩
      rw [if_neg (lt_irrefl _), if_pos (.inr ⟨rfl, hi⟩)]
    · refine .inr ⟨?_, .inr ⟨rfl, not_lt.mp hi⟩⟩
      rw [if_neg (lt_irrefl _), if_neg (by rintro (h' | ⟨_, h'⟩); exacts [lt_irrefl _ h', hi h'])]
  · refine .inl ⟨?_, .inl h⟩
    rw [if_pos h, if_pos (.inl h)]

/-- Over a list the reference keeps a pair with every other behind it. -/
theorem keeps_first_of (l : List (EReal × BitVec 32)) (p : EReal × BitVec 32) :
    l.foldl (reducer_argmax_f32_i32 (F := Ideal)) p ∈ p :: l ∧ ∀ q ∈ p :: l, Behind q (l.foldl (reducer_argmax_f32_i32 (F := Ideal)) p) := by
  induction l generalizing p with
  | nil => exact ⟨List.mem_cons_self, fun q hq => List.mem_singleton.1 hq ▸ Behind.refl _⟩
  | cons a l ih =>
      obtain ⟨hm, hb⟩ := ih (reducer_argmax_f32_i32 (F := Ideal) p a)
      rw [List.foldl_cons]
      have h0 := hb _ List.mem_cons_self
      rcases keeps_first p a with ⟨e, h⟩ | ⟨e, h⟩ <;> rw [e] at hm hb h0 ⊢
      · refine ⟨?_, fun q hq => ?_⟩
        · rcases List.mem_cons.1 hm with h' | h'
          · rw [h']; exact List.mem_cons_self
          · exact List.mem_cons_of_mem _ (List.mem_cons_of_mem _ h')
        · rcases List.mem_cons.1 hq with rfl | hq
          · exact h0
          · rcases List.mem_cons.1 hq with rfl | hq
            · exact h.trans h0
            · exact hb q (List.mem_cons_of_mem _ hq)
      · refine ⟨List.mem_cons_of_mem _ hm, fun q hq => ?_⟩
        rcases List.mem_cons.1 hq with rfl | hq
        · exact h.trans h0
        · exact hb q hq

/-- The pairs of a row. -/
theorem mem_row (x : S256x100000.Idx → EReal) (y : S256x100000.Idx → BitVec 32) (r : Fin 256) (p : EReal × BitVec 32) :
    p ∈ Host.argReduceFiber x y reducesTo_S256x100000_S256_d1 (ix1 r) ↔ ∃ v : Fin 100000, p = (x (ix2 r v), y (ix2 r v)) := by
  rw [Host.argReduceFiber, List.mem_map]
  constructor
  · rintro ⟨n, hn, rfl⟩
    have hd : Shape.ReducesTo.drop reducesTo_S256x100000_S256_d1 (S256x100000.rowMajor.symm n) = ix1 r := by
      simpa using (List.mem_filter.1 hn).2
    refine ⟨(S256x100000.rowMajor.symm n) 1, ?_⟩
    have e : S256x100000.rowMajor.symm n = ix2 r ((S256x100000.rowMajor.symm n) 1) := by
      funext a
      match a with
      | ⟨0, _⟩ => exact congrFun hd 0
      | ⟨1, _⟩ => rfl
    exact congrArg (fun i => (x i, y i)) e
  · rintro ⟨v, rfl⟩
    refine ⟨S256x100000.rowMajor (ix2 r v), List.mem_filter.2 ⟨List.mem_finRange _, ?_⟩, by rw [Equiv.symm_apply_apply]⟩
    rw [Equiv.symm_apply_apply]
    refine decide_eq_true (funext fun a => ?_)
    match a with
    | ⟨0, _⟩ => rfl

/-- The first index with the greatest score of a row. -/
theorem first_greatest (x : FVec Ideal S256x100000 .f32) (z : ℕ → EReal) (r : Fin 256) (hx : ∀ v : Fin 100000, x (ix2 r v) = z v.val) :
    ∃ b w, Best z 100000 b w ∧ (Host.argReduce reducer_argmax_f32_i32 x (iotaInDim S256x100000 32 1) (constant S_ .f32 0xFF800000#32)
      (constantI S_ 32 0#32) reducesTo_S256x100000_S256_d1 h_S_ (ix1 r)).2 = BitVec.ofNat 32 w := by
  rw [Ideal.argReduce_eq_reduce2, Host.reduce2_eq_foldl_fiber]
  obtain ⟨hm, hb⟩ := keeps_first_of (Host.argReduceFiber x (iotaInDim S256x100000 32 1) reducesTo_S256x100000_S256_d1 (ix1 r)) (⊥, 0#32)
  have hs : ((constant (F := Ideal) S_ .f32 0xFF800000#32) (Shape.Idx.first h_S_), (constantI S_ 32 0#32) (Shape.Idx.first h_S_)) = ((⊥ : EReal), 0#32) :=
    congrArg (·, 0#32) minusInf
  rw [hs]
  generalize List.foldl _ _ _ = res at hm hb ⊢
  have hz : ∀ v : Fin 100000, Behind (z v.val, BitVec.ofNat 32 v.val) res := fun v =>
    hb _ (List.mem_cons_of_mem _ ((mem_row _ _ _ _).2 ⟨v, by rw [hx]; rfl⟩))
  have h0 := hb _ List.mem_cons_self
  obtain ⟨b, i⟩ := res
  have hi : ∀ v : ℕ, v < 100000 → (BitVec.ofNat 32 v).toInt = v := fun v hv => StableHlo.Predicate.toInt_ofNat_small _ (by omega)
  rcases List.mem_cons.1 hm with h | h
  · obtain ⟨rfl, rfl⟩ := Prod.mk.inj h
    refine ⟨⊥, 0, ⟨.inl ⟨rfl, rfl⟩, fun v hv => ?_, .inr rfl⟩, rfl⟩
    rcases hz ⟨v, hv⟩ with h1 | ⟨h1, _⟩
    · exact .inl h1
    · exact .inr ⟨h1, Nat.zero_le _⟩
  · obtain ⟨w, hw⟩ := (mem_row _ _ _ _).1 h
    obtain ⟨rfl, rfl⟩ := Prod.mk.inj hw
    have hw' : (iotaInDim S256x100000 32 1 : IVec S256x100000 32) (ix2 r w) = BitVec.ofNat 32 w.val := rfl
    rw [hw'] at h0 hz ⊢
    refine ⟨_, w.val, ⟨.inr ⟨w.isLt, (hx w).symm⟩, fun v hv => ?_, ?_⟩, rfl⟩
    · rcases hz ⟨v, hv⟩ with h1 | ⟨h1, h2⟩
      · exact .inl h1
      · rw [hi _ w.isLt, hi _ hv] at h2
        exact .inr ⟨h1, by exact_mod_cast h2⟩
    · rcases h0 with h1 | ⟨_, h2⟩
      · exact .inl h1
      · rw [hi _ w.isLt] at h2
        exact .inr (by simpa using h2)

variable (N : Net) (V : Valuation τ sig (Elt Ideal))

/-- The scores. -/
theorem score_val (hx : ∀ b n v, (V (Proc.devRef .tc main_v28) : S16x16x100000.Idx → EReal) (ix3 b n v) = ((N.logit b n v : ℝ) : EReal))
    (hg : ∀ r v, (V (Proc.devRef .tc main_arg10) : S256x100000.Idx → EReal) (ix2 r v) = N.gumbel r v) (r : Fin 256) (v : Fin 100000) :
    (after opsScore V (Proc.devRef .tc main_v41) : S256x100000.Idx → EReal) (ix2 r v) = N.score r v.val := by
  rw [Net.score, dif_pos v.isLt]
  unfold opsScore
  after_results_simp
  pointwise []
  rw [hg]
  exact congrArg (N.gumbel r v + ·) (hx _ _ _)

/-- A vector of 256 entries as 16 rows of 16. -/
theorem as_rows (f : S256.Idx → BitVec 32) (b n : Fin 16) : shapeCast S16x16 f shapeCasts_S256_S16x16 (ix2 b n) = f (ix1 (Net.row b n)) := by
  pointwise []
  rfl

/-- The first greatest score of a row. -/
theorem first_val (z : ℕ → EReal) (b n : Fin 16)
    (hx : ∀ v : Fin 100000, (V (Proc.devRef .tc main_v41) : S256x100000.Idx → EReal) (ix2 (Net.row b n) v) = z v.val) :
    ∃ m w, Best z 100000 m w ∧ (after opsFirst V (Proc.devRef .tc main_v43) : S16x16.Idx → BitVec 32) (ix2 b n) = BitVec.ofNat 32 w := by
  obtain ⟨m, w, h, e⟩ := first_greatest (V (Proc.devRef .tc main_v41)) z (Net.row b n) hx
  refine ⟨m, w, h, ?_⟩
  refine Eq.trans ?_ e
  unfold opsFirst
  after_results_simp
  simp only [StableHlo.TRef.ofBuf_toBuf]
  simp only [StableHlo.TRef.ofBuf, StableHlo.TRef.toBuf, cast_eq]
  exact as_rows _ b n

end Cert.Proof.Ref

end
-- ==== Proof.RefAll.lean ====
/-
  What the reference's run leaves in its two results.
-/
module

public import proofs.«01_k».proof.Proof.RefTake
public import proofs.«01_k».proof.Proof.RefArg

@[expose] public section

noncomputable section

namespace Cert.Proof.Ref

open Idealize.ShloMosaic
open Idealize.ShloMosaic.TcCoe
open Cert.ReferenceIdeal Cert.ReferenceIdeal.Gen
open StableHlo (after)

variable (N : Net) (m : (ℓ : Loc nD τ sig) → Buf (Elt Ideal) ℓ)

/-- The arguments of the memory `m` hold the numbers of `N`. -/
abbrev HoldsAt (d : Dev nD) : Prop :=
  N.Holds (m (d.tc.loc main_arg0)) (m (d.tc.loc main_arg1)) (m (d.tc.loc main_arg2)) (m (d.tc.loc main_arg3)) (m (d.tc.loc main_arg4))
    (m (d.tc.loc main_arg5)) (m (d.tc.loc main_arg6)) (m (d.tc.loc main_arg7)) (m (d.tc.loc main_arg8)) (m (d.tc.loc main_arg9))
    (m (d.tc.loc main_arg10))

variable {N m}

/-- A stage keeps the buffers it does not write. -/
theorem keepTake (d : Dev nD) {b : Ref sig .tc} (h : b ∉ opsTakeW) : R1 m d (Proc.devRef .tc b) = R0 m d (Proc.devRef .tc b) :=
  StableHlo.after_of_writes_sub _ _ opsTake_writes h
@[inherit_doc keepTake]
theorem keepIn (d : Dev nD) {b : Ref sig .tc} (h : b ∉ opsInW) : R2 m d (Proc.devRef .tc b) = R1 m d (Proc.devRef .tc b) :=
  StableHlo.after_of_writes_sub _ _ opsIn_writes h
@[inherit_doc keepTake]
theorem keepHid (d : Dev nD) {b : Ref sig .tc} (h : b ∉ opsHidW) : R3 m d (Proc.devRef .tc b) = R2 m d (Proc.devRef .tc b) :=
  StableHlo.after_of_writes_sub _ _ opsHid_writes h
@[inherit_doc keepTake]
theorem keepLog (d : Dev nD) {b : Ref sig .tc} (h : b ∉ opsLogW) : R4 m d (Proc.devRef .tc b) = R3 m d (Proc.devRef .tc b) :=
  StableHlo.after_of_writes_sub _ _ opsLog_writes h
@[inherit_doc keepTake]
theorem keepSoft (d : Dev nD) {b : Ref sig .tc} (h : b ∉ opsSoftW) : R5 m d (Proc.devRef .tc b) = R4 m d (Proc.devRef .tc b) :=
  StableHlo.after_of_writes_sub _ _ opsSoft_writes h
@[inherit_doc keepTake]
theorem keepArg (d : Dev nD) {b : Ref sig .tc} (h : b ∉ opsArgW) : R6 m d (Proc.devRef .tc b) = R5 m d (Proc.devRef .tc b) :=
  StableHlo.after_of_writes_sub _ _ opsArg_writes h

/-- The logits, after their stage. -/
theorem logits (d : Dev nD) (h : HoldsAt N m d) (b n : Fin 16) (v : Fin 100000) :
    (R4 m d (Proc.devRef .tc main_v28) : S16x16x100000.Idx → EReal) (ix3 b n v) = ((N.logit b n v : ℝ) : EReal) := by
  refine logit_val N _ (fun b n f => ?_) (fun v f => ?_) (fun v => ?_) b n v
  · refine hid_val N _ (fun b n f => ?_) (fun b f => ?_) (fun b f => ?_) (fun f g => ?_) (fun f => ?_) b n f
    · refine mix_val N _ (fun b n f => ?_) (fun f g => ?_) (fun f => ?_) b n f
      · exact take_val N _ h.path h.embed b n f
      · rw [keepTake _ (by decide)]; exact h.w f g
      · rw [keepTake _ (by decide)]; exact h.bias f
    · rw [keepIn _ (by decide), keepTake _ (by decide)]; exact h.states b f
    · rw [keepIn _ (by decide), keepTake _ (by decide)]; exact h.targets b f
    · rw [keepIn _ (by decide), keepTake _ (by decide)]; exact h.w1 f g
    · rw [keepIn _ (by decide), keepTake _ (by decide)]; exact h.b1 f
  · rw [keepHid _ (by decide), keepIn _ (by decide), keepTake _ (by decide)]; exact h.w2 v f
  · rw [keepHid _ (by decide), keepIn _ (by decide), keepTake _ (by decide)]; exact h.b2 v

/-- The probabilities, at the end. -/
theorem probs (d : Dev nD) (h : HoldsAt N m d) (b n : Fin 16) (v : Fin 100000) :
    (R6 m d (Proc.devRef .tc main_v39) : S16x16x100000.Idx → EReal) (ix3 b n v) = ((N.prob b n v : ℝ) : EReal) := by
  rw [keepArg _ (by decide)]
  exact prob_val N _ (logits d h) b n v

/-- The indices, at the end. -/
theorem firsts (d : Dev nD) (h : HoldsAt N m d) (b n : Fin 16) :
    ∃ x w, Best (N.score (Net.row b n)) 100000 x w ∧
      (R6 m d (Proc.devRef .tc main_v43) : S16x16.Idx → BitVec 32) (ix2 b n) = BitVec.ofNat 32 w := by
  rw [R6, opsArg, after_append]
  refine first_val _ _ b n fun v => ?_
  refine score_val N _ (fun b n v => ?_) (fun r v => ?_) _ v
  · rw [keepSoft _ (by decide)]; exact logits d h b n v
  · rw [keepSoft _ (by decide), keepLog _ (by decide), keepHid _ (by decide), keepIn _ (by decide), keepTake _ (by decide)]
    exact h.gumbel r v

end Cert.Proof.Ref

end
-- ==== Proof.Algebraic.lean ====
/-
  The value claim: kernel and reference end with the same results.
-/
module

public import proofs.«01_k».proof.Proof.FramesFinite
public import proofs.«01_k».proof.Proof.ValAll
public import proofs.«01_k».proof.Proof.RefAll
public import Idealize.ShloMosaic.Lib.Claim

@[expose] public section

noncomputable section

namespace Cert.Proof

open Idealize.ShloMosaic
open Idealize.ShloMosaic.TcCoe
open Idealize.SL.Sem
open Cert.KernelIdeal Cert.KernelIdeal.Gen

/-- An extended real whose absolute value is below infinity is a real number. -/
theorem real_of_lt (x : EReal) (h : max x (-x) < ⊤) : x = (x.toReal : EReal) := by
  refine (EReal.coe_toReal ?_ ?_).symm
  · rintro rfl; simp at h
  · rintro rfl; simp at h

/-- An array whose entries' absolute values all compare below the word of infinity holds real numbers. -/
theorem real_of_cmp {s : Shape} (hb : Cert.Pre_in_range_and_finite.S_.BroadcastsInDim s (![] : Fin 0 → Fin s.rank)) (x : FVec Ideal s .f32)
    (h : cmpf .olt (Host.absf x) (broadcastInDim s ![] hb (constant (F := Ideal) Cert.Pre_in_range_and_finite.S_ .f32 0x7F800000#32)) = fun _ => 1#1)
    (q : s.Idx) : (x q : EReal) = ((x q : EReal).toReal : EReal) := by
  apply real_of_lt
  have e : Ideal.ofBits .f32 0x7F800000#32 = (⊤ : EReal) := by simp [Ideal.ofBits, Ideal.ieee]
  have h1 := congrFun h q
  by_contra hc
  have h2 : Ideal.cmp .olt (max (x q : EReal) (-(x q : EReal))) (Ideal.ofBits .f32 0x7F800000#32) = 1#1 := h1
  rw [e] at h2
  simp [Ideal.cmp, hc] at h2

variable (m : (ℓ : Loc nD τ sig) → Buf (Elt Ideal) ℓ)

/-- The network whose numbers a launch holds. -/
def netOf (hp : PathOk (F := Ideal) m) : Net where
  path b n := ⟨(pathOf m (ix2 b n)).toNat, hp _⟩
  states b h := ((launchV m (Proc.devRef .tc main_arg1) : S16x128.Idx → EReal) (ix2 b h)).toReal
  targets b h := ((launchV m (Proc.devRef .tc main_arg2) : S16x1x128.Idx → EReal) (ix3 b 0 h)).toReal
  embed i d := ((launchV m (Proc.devRef .tc main_arg3) : S100000x128.Idx → EReal) (ix2 i d)).toReal
  w h d := ((launchV m (Proc.devRef .tc main_arg4) : S128x128.Idx → EReal) (ix2 h d)).toReal
  bias h := ((launchV m (Proc.devRef .tc main_arg5) : S128.Idx → EReal) (ix1 h)).toReal
  w1 f h := ((launchV m (Proc.devRef .tc main_arg6) : S256x128.Idx → EReal) (ix2 f h)).toReal
  b1 f := ((launchV m (Proc.devRef .tc main_arg7) : S256.Idx → EReal) (ix1 f)).toReal
  w2 v f := ((launchV m (Proc.devRef .tc main_arg8) : S100000x256.Idx → EReal) (ix2 v f)).toReal
  b2 v := ((launchV m (Proc.devRef .tc main_arg9) : S100000.Idx → EReal) (ix1 v)).toReal
  gumbel r v := (launchV m (Proc.devRef .tc main_arg10) : S256x100000.Idx → EReal) (ix2 r v)

/-- A launch that the value claim admits holds its network's numbers. -/
theorem launched_of (h : Pre_KernelIdeal_in_range_and_finite m) : Launched (netOf m (path_ok_finite m h)) m := by
  obtain ⟨_, h1, h2, h3, h4, h5, h6, h7, h8, h9⟩ := h 0
  exact {
    path := fun b n => BitVec.eq_of_toNat_eq (by rw [BitVec.toNat_ofNat]; exact (Nat.mod_eq_of_lt (BitVec.isLt _)).symm)
    states := fun b h => real_of_cmp _ _ h1 _
    targets := fun b h => real_of_cmp _ _ h2 _
    embed := fun i d => real_of_cmp _ _ h3 _
    w := fun h d => real_of_cmp _ _ h4 _
    bias := fun h => real_of_cmp _ _ h5 _
    w1 := fun f h => real_of_cmp _ _ h6 _
    b1 := fun f => real_of_cmp _ _ h7 _
    w2 := fun v f => real_of_cmp _ _ h8 _
    b2 := fun v => real_of_cmp _ _ h9 _
    gumbel := fun r v => rfl }

/-- The two results, and the argument buffers, are of no scope. -/
theorem results_open : main_v23.isScoped = false ∧ main_v24.isScoped = false := by decide

/-- Kernel and reference, from the same arguments, end with the same two results. -/
theorem same_results : algebraic_KernelIdeal_ReferenceIdeal_pre_in_range_and_finite := fun m g m' g' hpre hag => by
  have hp := path_ok_finite m hpre
  have hN := launched_of m hpre
  have hR : Ref.HoldsAt (netOf m hp) m' 0 := by
    obtain ⟨e0, e1, e2, e3, e4, e5, e6, e7, e8, e9, e10⟩ := hag 0
    unfold Ref.HoldsAt
    rw [e0, e1, e2, e3, e4, e5, e6, e7, e8, e9, e10]
    exact hN
  refine ⟨fun c => Ref.R6 m' c (Proc.devRef .tc Cert.ReferenceIdeal.main_v43), fun c => Ref.R6 m' c (Proc.devRef .tc Cert.ReferenceIdeal.main_v39), ?_, ?_⟩
  · refine θ_run_mono (θ_run_and (run_keeps m g hp) (run_args m g hp)) fun r ⟨⟨⟨V, hV, hm⟩, _⟩, ha, _⟩ c => ?_
    obtain rfl : c = 0 := Subsingleton.elim c 0
    have hb : ∀ b : Ref sig .tc, b.isScoped = false → r.2.mem (((0 : Dev nD).tc : Thread nD τ).loc b) = V (Proc.devRef .tc b) := fun b hb =>
      hm _ (Finset.mem_filter.mpr ⟨StableHlo.devRef_mem_tcRefs b, by simpa using hb⟩)
    obtain ⟨hprob, hbest⟩ := results hN hp hV
    refine ⟨?_, ?_, ?_, ?_, ?_, ?_, ?_, ?_, ?_, ?_, ?_, ?_, ?_⟩
    · refine (hb _ results_open.1).trans (funext fun (i : S16x16.Idx) => ?_)
      rw [eq_ix2 i]
      obtain ⟨x, w, h1, h2⟩ := hbest (i 0) (i 1)
      obtain ⟨x', w', h1', h2'⟩ := Ref.firsts 0 hR (i 0) (i 1)
      have := (h1'.extend (k := 6496) fun v hv => dif_neg (not_lt.mpr hv)).unique h1
      exact h2.trans ((congrArg (BitVec.ofNat 32) this.2.symm).trans h2'.symm)
    · refine (hb _ results_open.2).trans (funext fun (i : S16x16x100000.Idx) => ?_)
      rw [eq_ix3 i]
      exact (hprob _ _ _).trans (Ref.probs 0 hR _ _ _).symm
    all_goals exact ha 0 _ (by simp [args])
  · exact θ_run_mono (Ref.run m' g') fun r h c => by
      refine ⟨h c _, h c _, ?_, ?_, ?_, ?_, ?_, ?_, ?_, ?_, ?_, ?_, ?_⟩ <;> exact (h c _).trans (ref_keep m' c _ (by simp [refArgs]))

end Cert.Proof

end
-- ==== Proof.lean ====
/-
  The claims put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

/-- Every claim holds. -/
theorem claim : Cert.Claim :=
  ⟨Cert.Kernel.Gen.facts, Cert.KernelIdeal.Gen.facts, Cert.ReferenceIdeal.Gen.facts, Cert.Pre_path_in_range.Gen.facts, preFacts,
    frame_p, frame_pi, frame_pi_finite, frame_ri, frame_ri_finite, names, same_results⟩

end Cert.Proof

end
